-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nondegenerate [hPre_nondegenerate : Cert.Pre_nondegenerate.Facts] (m : (ℓ : Loc Cert.KernelIdeal.nD Cert.KernelIdeal.τ Cert.KernelIdeal.sig) → Buf (Elt Ideal) ℓ) : Prop :=
  ∀ c : Dev Cert.KernelIdeal.nD,
    (Cert.Pre_nondegenerate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nondegenerate [hPre_nondegenerate : Cert.Pre_nondegenerate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nondegenerate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nondegenerate [hKernelIdeal : Cert.KernelIdeal.Facts] [hPre_nondegenerate : Cert.Pre_nondegenerate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nondegenerate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nondegenerate [hReferenceIdeal : Cert.ReferenceIdeal.Facts] [hPre_nondegenerate : Cert.Pre_nondegenerate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nondegenerate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "d_eps_sq" .f32 0x300CBCCC#32 ((77371252064649 / 151115727451828646838272 : ℝ) : EReal)

def algebraic_KernelIdeal_ReferenceIdeal_pre_nondegenerate [hKernelIdeal : Cert.KernelIdeal.Facts] [hReferenceIdeal : Cert.ReferenceIdeal.Facts] [hPre_nondegenerate : Cert.Pre_nondegenerate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nondegenerate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_4)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_4) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v259) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v52) = v3 c
          ∧ r.2.mem ((c.tc : Thread Cert.ReferenceIdeal.nD Cert.ReferenceIdeal.τ).loc Cert.ReferenceIdeal.main_v71) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nondegenerate : Cert.Pre_nondegenerate.Facts),
    quiescent_Kernel (hKernel := hKernel)
    ∧ quiescent_KernelIdeal (hKernelIdeal := hKernelIdeal)
    ∧ quiescent_KernelIdeal_pre_nondegenerate (hKernelIdeal := hKernelIdeal) (hPre_nondegenerate := hPre_nondegenerate)
    ∧ quiescent_ReferenceIdeal (hReferenceIdeal := hReferenceIdeal)
    ∧ quiescent_ReferenceIdeal_pre_nondegenerate (hReferenceIdeal := hReferenceIdeal) (hPre_nondegenerate := hPre_nondegenerate)
    ∧ preserves_Kernel_KernelIdeal
    ∧ algebraic_KernelIdeal_ReferenceIdeal_pre_nondegenerate (hKernelIdeal := hKernelIdeal) (hReferenceIdeal := hReferenceIdeal) (hPre_nondegenerate := hPre_nondegenerate)
-- ==== Pre_nondegenerate.lean ====
abbrev S16x512x32x32 : Shape := ⟨4, ![16, 512, 32, 32]⟩
abbrev S10x512 : Shape := ⟨2, ![10, 512]⟩
abbrev S_ : Shape := ⟨0, ![]⟩
abbrev S16x32x32 : Shape := ⟨3, ![16, 32, 32]⟩

class Facts : Prop where
  reducesTo_S16x512x32x32_S16x32x32_d1 : S16x512x32x32.ReducesTo [1] S16x32x32
  h_S_ : 0 < S_.numel
  bcast_S_S10x512 : S_.BroadcastsInDim S10x512 (![] : Fin 0 → Fin S10x512.rank)
  reducesTo_S10x512_S_d0_1 : S10x512.ReducesTo [0, 1] S_
  bcast_S_S16x32x32 : S_.BroadcastsInDim S16x32x32 (![] : Fin 0 → Fin S16x32x32.rank)
  reducesTo_S16x32x32_S_d0_1_2 : S16x32x32.ReducesTo [0, 1, 2] S_

variable [Facts]

def fn {F : FTy → Type} [FloatOps F] (main_arg0 : FVec F S16x512x32x32 .f32) (main_arg1 : FVec F S10x512 .f32) : IVec S_ 1 :=
  let main_v0 : FVec F S16x512x32x32 .f32 := mulf main_arg0 main_arg0
  let main_cst : FVec F S_ .f32 := constant S_ .f32 0x00000000#32
  let main_v1 : FVec F S16x32x32 .f32 := (fun x v => Host.reduceAdd x v reducesTo_S16x512x32x32_S16x32x32_d1 h_S_) main_v0 main_cst
  let main_v2 : FVec F S16x32x32 .f32 := Host.sqrt main_v1
  let main_v3 : FVec F S10x512 .f32 := Host.absf main_arg1
  let main_cst_0 : FVec F S_ .f32 := constant S_ .f32 0x7F800000#32
  let main_v4 : FVec F S10x512 .f32 := broadcastInDim S10x512 ![] bcast_S_S10x512 main_cst_0
  let main_v5 : IVec S10x512 1 := cmpf .olt main_v3 main_v4
  let main_c : IVec S_ 1 := constantI S_ 1 1#1
  let main_v6 : IVec S_ 1 := (fun x v => Host.reduce IntOp.andi x v reducesTo_S10x512_S_d0_1 h_S_) main_v5 main_c
  let main_cst_1 : FVec F S_ .f32 := constant S_ .f32 0x7F800000#32
  let main_v7 : FVec F S16x32x32 .f32 := broadcastInDim S16x32x32 ![] bcast_S_S16x32x32 main_cst_1
  let main_v8 : IVec S16x32x32 1 := cmpf .olt main_v2 main_v7
  let main_c_2 : IVec S_ 1 := constantI S_ 1 1#1
  let main_v9 : IVec S_ 1 := (fun x v => Host.reduce IntOp.andi x v reducesTo_S16x32x32_S_d0_1_2 h_S_) main_v8 main_c_2
  let main_v10 : IVec S_ 1 := andi main_v6 main_v9
  let main_cst_3 : FVec F S_ .f32 := constant S_ .f32 0x2B8CBCCC#32
  let main_v11 : FVec F S16x32x32 .f32 := broadcastInDim S16x32x32 ![] bcast_S_S16x32x32 main_cst_3
  let main_v12 : IVec S16x32x32 1 := cmpf .oge main_v2 main_v11
  let main_c_4 : IVec S_ 1 := constantI S_ 1 1#1
  let main_v13 : IVec S_ 1 := (fun x v => Host.reduce IntOp.andi x v reducesTo_S16x32x32_S_d0_1_2 h_S_) main_v12 main_c_4
  let main_v14 : IVec S_ 1 := andi main_v10 main_v13
  main_v14
-- ==== Kernel.lean ====
abbrev S16x512x32x32 : Shape := ⟨4, ![16, 512, 32, 32]⟩
abbrev S10x512 : Shape := ⟨2, ![10, 512]⟩
abbrev S16x512x1024 : Shape := ⟨3, ![16, 512, 1024]⟩
abbrev S16x1024x1024 : Shape := ⟨3, ![16, 1024, 1024]⟩
abbrev S16x1x1024 : Shape := ⟨3, ![16, 1, 1024]⟩
abbrev S16x1024x512 : Shape := ⟨3, ![16, 1024, 512]⟩
abbrev S2x512x1024 : Shape := ⟨3, ![2, 512, 1024]⟩
abbrev S2x1024x1024 : Shape := ⟨3, ![2, 1024, 1024]⟩
abbrev S2x1x1024 : Shape := ⟨3, ![2, 1, 1024]⟩
abbrev S2x1024x512 : Shape := ⟨3, ![2, 1024, 512]⟩
abbrev S1x512x1024 : Shape := ⟨3, ![1, 512, 1024]⟩
abbrev S512x1024 : Shape := ⟨2, ![512, 1024]⟩
abbrev S1x512 : Shape := ⟨2, ![1, 512]⟩
abbrev S1x1024 : Shape := ⟨2, ![1, 1024]⟩
abbrev S11x512 : Shape := ⟨2, ![11, 512]⟩
abbrev S11x1024 : Shape := ⟨2, ![11, 1024]⟩
abbrev S10x1024 : Shape := ⟨2, ![10, 1024]⟩
abbrev S1024 : Shape := ⟨1, ![1024]⟩
abbrev S10x2048 : Shape := ⟨2, ![10, 2048]⟩
abbrev S512x2048 : Shape := ⟨2, ![512, 2048]⟩
abbrev S1024x512 : Shape := ⟨2, ![1024, 512]⟩
abbrev S1x1024x512 : Shape := ⟨3, ![1, 1024, 512]⟩
abbrev S10 : Shape := ⟨1, ![10]⟩
abbrev S10x1 : Shape := ⟨2, ![10, 1]⟩
abbrev S1x1x1024 : Shape := ⟨3, ![1, 1, 1024]⟩
abbrev S16x1024x32x32 : Shape := ⟨4, ![16, 1024, 32, 32]⟩
abbrev S16x1024 : Shape := ⟨2, ![16, 1024]⟩

abbrev nBuf : Space → Nat
  | .hbm => 11
  | .vmem => 13
  | .smem => 0
  | _ => 0

abbrev bufTy : (tb : Table) → Fin (tcTables nBuf tb) → BufTy
  | .hbm, ⟨0, _⟩ => ⟨S16x512x32x32, .f32⟩
  | .hbm, ⟨1, _⟩ => ⟨S10x512, .f32⟩
  | .hbm, ⟨2, _⟩ => ⟨S16x512x1024, .f32⟩
  | .hbm, ⟨3, _⟩ => ⟨S16x1024x1024, .f32⟩
  | .hbm, ⟨4, _⟩ => ⟨S16x1x1024, .f32⟩
  | .hbm, ⟨5, _⟩ => ⟨S16x1024x512, .f32⟩
  | .hbm, ⟨6, _⟩ => ⟨S16x1x1024, .i32⟩
  | .hbm, ⟨7, _⟩ => ⟨S10x512, .f32⟩
  | .hbm, ⟨8, _⟩ => ⟨S16x1024x32x32, .f32⟩
  | .hbm, ⟨9, _⟩ => ⟨S16x1024, .f32⟩
  | .hbm, ⟨10, _⟩ => ⟨S16x1024, .i32⟩
  | .local _ .vmem, ⟨0, _⟩ => ⟨S2x512x1024, .f32⟩
  | .local _ .vmem, ⟨1, _⟩ => ⟨S2x512x1024, .f32⟩
  | .local _ .vmem, ⟨2, _⟩ => ⟨S10x512, .f32⟩
  | .local _ .vmem, ⟨3, _⟩ => ⟨S2x1024x1024, .f32⟩
  | .local _ .vmem, ⟨4, _⟩ => ⟨S2x1024x1024, .f32⟩
  | .local _ .vmem, ⟨5, _⟩ => ⟨S2x1x1024, .f32⟩
  | .local _ .vmem, ⟨6, _⟩ => ⟨S2x1x1024, .f32⟩
  | .local _ .vmem, ⟨7, _⟩ => ⟨S2x1024x512, .f32⟩
  | .local _ .vmem, ⟨8, _⟩ => ⟨S2x1024x512, .f32⟩
  | .local _ .vmem, ⟨9, _⟩ => ⟨S2x1x1024, .i32⟩
  | .local _ .vmem, ⟨10, _⟩ => ⟨S2x1x1024, .i32⟩
  | .local _ .vmem, ⟨11, _⟩ => ⟨S10x512, .f32⟩
  | .local _ .vmem, ⟨12, _⟩ => ⟨S10x512, .f32⟩
  | _, _ => ⟨S16x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v300 : BitVec 1 := Scalar.cmpi .eq arg0 c7_i32
  let v301 : BitVec 32 := Scalar.extui v300
  let c0_i32_114 : BitVec 32 := 0#32
  let v302 : BitVec 1 := Scalar.cmpi .ne v301 c0_i32_114
  v302

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S10x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "d_eps_sq" => some ((77371252064649 / 151115727451828646838272 : ℝ) : EReal)
  | _ => none
-- ==== ReferenceIdeal.lean ====
abbrev S16x512x32x32 : Shape := ⟨4, ![16, 512, 32, 32]⟩
abbrev S10x512 : Shape := ⟨2, ![10, 512]⟩
abbrev S_ : Shape := ⟨0, ![]⟩
abbrev S16x32x32 : Shape := ⟨3, ![16, 32, 32]⟩
abbrev S16x1x32x32 : Shape := ⟨4, ![16, 1, 32, 32]⟩
abbrev S16x32x32x512 : Shape := ⟨4, ![16, 32, 32, 512]⟩
abbrev S16x1024x512 : Shape := ⟨3, ![16, 1024, 512]⟩
abbrev S16x1024x10 : Shape := ⟨3, ![16, 1024, 10]⟩
abbrev S16x10 : Shape := ⟨2, ![16, 10]⟩
abbrev S16x1x10 : Shape := ⟨3, ![16, 1, 10]⟩
abbrev S16x1024 : Shape := ⟨2, ![16, 1024]⟩
abbrev S16x1024x1 : Shape := ⟨3, ![16, 1024, 1]⟩
abbrev S16x1024x2 : Shape := ⟨3, ![16, 1024, 2]⟩
abbrev S16x1024x1024 : Shape := ⟨3, ![16, 1024, 1024]⟩
abbrev S16x32x32x1024 : Shape := ⟨4, ![16, 32, 32, 1024]⟩
abbrev S16x1024x32x32 : Shape := ⟨4, ![16, 1024, 32, 32]⟩
abbrev S1x1x10 : Shape := ⟨3, ![1, 1, 10]⟩
abbrev S16x10x512 : Shape := ⟨3, ![16, 10, 512]⟩
abbrev S1x10x512 : Shape := ⟨3, ![1, 10, 512]⟩
abbrev S10 : Shape := ⟨1, ![10]⟩
abbrev S10x1 : Shape := ⟨2, ![10, 1]⟩

abbrev nBuf : Space → Nat
  | .hbm => 322
  | .vmem => 0
  | .smem => 0
  | _ => 0

abbrev hbmTy0_0 (i : Nat) : BufTy := match i % 128 with
  | 0 => ⟨S16x512x32x32, .f32⟩
  | 1 => ⟨S10x512, .f32⟩
  | 2 => ⟨S16x512x32x32, .f32⟩
  | 3 => ⟨S_, .f32⟩
  | 4 => ⟨S16x32x32, .f32⟩
  | 5 => ⟨S16x1x32x32, .f32⟩
  | 6 => ⟨S16x1x32x32, .f32⟩
  | 7 => ⟨S_, .f32⟩
  | 8 => ⟨S16x1x32x32, .f32⟩
  | 9 => ⟨S16x1x32x32, .f32⟩
  | 10 => ⟨S16x512x32x32, .f32⟩
  | 11 => ⟨S16x512x32x32, .f32⟩
  | 12 => ⟨S16x32x32x512, .f32⟩
  | 13 => ⟨S16x1024x512, .f32⟩
  | 14 => ⟨S16x1024x10, .f32⟩
  | 15 => ⟨S_, .f32⟩
  | 16 => ⟨S16x10, .f32⟩
  | 17 => ⟨S_, .f32⟩
  | 18 => ⟨S16x10, .f32⟩
  | 19 => ⟨S16x10, .f32⟩
  | 20 => ⟨S16x1x10, .f32⟩
  | 21 => ⟨S16x1024x10, .f32⟩
  | 22 => ⟨S16x1024x10, .f32⟩
  | 23 => ⟨S16x1024x10, .f32⟩
  | 24 => ⟨S_, .f32⟩
  | 25 => ⟨S16x10, .f32⟩
  | 26 => ⟨S16x1x10, .f32⟩
  | 27 => ⟨S16x1024x10, .f32⟩
  | 28 => ⟨S16x1024x10, .f32⟩
  | 29 => ⟨S_, .f32⟩
  | 30 => ⟨S16x1024, .f32⟩
  | 31 => ⟨S_, .f32⟩
  | 32 => ⟨S16x1024, .f32⟩
  | 33 => ⟨S16x1024, .f32⟩
  | 34 => ⟨S16x1024x1, .f32⟩
  | 35 => ⟨S16x1024x10, .f32⟩
  | 36 => ⟨S16x1024x10, .f32⟩
  | 37 => ⟨S16x1024x10, .f32⟩
  | 38 => ⟨S_, .f32⟩
  | 39 => ⟨S16x1024, .f32⟩
  | 40 => ⟨S16x1024x1, .f32⟩
  | 41 => ⟨S16x1024x10, .f32⟩
  | 42 => ⟨S16x1024x10, .f32⟩
  | 43 => ⟨S16x1024x2, .f32⟩
  | 44 => ⟨S16x1024x2, .i32⟩
  | 45 => ⟨S16x1024x1, .i32⟩
  | 46 => ⟨S16x1024, .i32⟩
  | 47 => ⟨S_, .i32⟩
  | 48 => ⟨S16x1024, .i32⟩
  | 49 => ⟨S16x1024, .i1⟩
  | 50 => ⟨S_, .i32⟩
  | 51 => ⟨S16x1024, .i32⟩
  | 52 => ⟨S16x1024, .i32⟩
  | 53 => ⟨S16x1024, .i32⟩
  | 54 => ⟨S16x1024x1, .i32⟩
  | 55 => ⟨S16x1024x512, .f32⟩
  | 56 => ⟨S16x1024x1, .i32⟩
  | 57 => ⟨S16x1024, .i32⟩
  | 58 => ⟨S_, .i32⟩
  | 59 => ⟨S16x1024, .i32⟩
  | 60 => ⟨S16x1024, .i1⟩
  | 61 => ⟨S_, .i32⟩
  | 62 => ⟨S16x1024, .i32⟩
  | 63 => ⟨S16x1024, .i32⟩
  | 64 => ⟨S16x1024, .i32⟩
  | 65 => ⟨S16x1024x1, .i32⟩
  | 66 => ⟨S16x1024x512, .f32⟩
  | 67 => ⟨S16x1024x512, .f32⟩
  | 68 => ⟨S16x1024x512, .f32⟩
  | 69 => ⟨S16x1024x512, .f32⟩
  | 70 => ⟨S_, .f32⟩
  | 71 => ⟨S16x1024x512, .f32⟩
  | 72 => ⟨S16x1024x512, .f32⟩
  | 73 => ⟨S16x1024x512, .f32⟩
  | 74 => ⟨S_, .f32⟩
  | 75 => ⟨S16x1024, .f32⟩
  | 76 => ⟨S16x1024, .f32⟩
  | 77 => ⟨S16x1024x512, .f32⟩
  | 78 => ⟨S_, .f32⟩
  | 79 => ⟨S16x1024x512, .f32⟩
  | 80 => ⟨S16x1024x512, .f32⟩
  | 81 => ⟨S16x1024x512, .f32⟩
  | 82 => ⟨S_, .f32⟩
  | 83 => ⟨S16x1024, .f32⟩
  | 84 => ⟨S16x1024, .f32⟩
  | 85 => ⟨S16x1024, .f32⟩
  | 86 => ⟨S_, .f32⟩
  | 87 => ⟨S16x1024, .f32⟩
  | 88 => ⟨S16x1024, .f32⟩
  | 89 => ⟨S_, .f32⟩
  | 90 => ⟨S16x1024, .f32⟩
  | 91 => ⟨S16x1024, .f32⟩
  | 92 => ⟨S16x1024x1, .i32⟩
  | 93 => ⟨S16x1024, .i32⟩
  | 94 => ⟨S16x1024x512, .f32⟩
  | 95 => ⟨S16x1024x1024, .f32⟩
  | 96 => ⟨S16x32x32x1024, .f32⟩
  | 97 => ⟨S16x1024x32x32, .f32⟩
  | 98 => ⟨S16x1024x1, .f32⟩
  | 99 => ⟨S16x1024x1, .i32⟩
  | 100 => ⟨S16x1024, .i32⟩
  | 101 => ⟨S16x1024x1, .i32⟩
  | 102 => ⟨S1x1x10, .i32⟩
  | 103 => ⟨S16x1024x10, .i32⟩
  | 104 => ⟨S16x1024x10, .i32⟩
  | 105 => ⟨S16x1024x10, .i1⟩
  | 106 => ⟨S16x1024x10, .f32⟩
  | 107 => ⟨S_, .f32⟩
  | 108 => ⟨S16x10, .f32⟩
  | 109 => ⟨S16x1x10, .f32⟩
  | 110 => ⟨S16x1024x10, .f32⟩
  | 111 => ⟨S16x1024x10, .f32⟩
  | 112 => ⟨S16x1024x10, .f32⟩
  | 113 => ⟨S16x10x512, .f32⟩
  | 114 => ⟨S1x10x512, .f32⟩
  | 115 => ⟨S10x512, .f32⟩
  | 116 => ⟨S10x512, .f32⟩
  | 117 => ⟨S10x512, .f32⟩
  | 118 => ⟨S_, .f32⟩
  | 119 => ⟨S10, .f32⟩
  | 120 => ⟨S10x1, .f32⟩
  | 121 => ⟨S10x1, .f32⟩
  | 122 => ⟨S_, .f32⟩
  | 123 => ⟨S10x1, .f32⟩
  | 124 => ⟨S10x1, .f32⟩
  | 125 => ⟨S10x512, .f32⟩
  | 126 => ⟨S10x512, .f32⟩
  | 127 => ⟨S1x10x512, .f32⟩
  | _ => ⟨S16x512x32x32, .f32⟩

abbrev hbmTy0_1 (i : Nat) : BufTy := match i % 128 with
  | 0 => ⟨S10x512, .f32⟩
  | 1 => ⟨S10x512, .f32⟩
  | 2 => ⟨S10x512, .f32⟩
  | 3 => ⟨S_, .f32⟩
  | 4 => ⟨S10, .f32⟩
  | 5 => ⟨S10x1, .f32⟩
  | 6 => ⟨S10x1, .f32⟩
  | 7 => ⟨S_, .f32⟩
  | 8 => ⟨S10x1, .f32⟩
  | 9 => ⟨S10x1, .f32⟩
  | 10 => ⟨S10x512, .f32⟩
  | 11 => ⟨S10x512, .f32⟩
  | 12 => ⟨S1x10x512, .f32⟩
  | 13 => ⟨S10x512, .f32⟩
  | 14 => ⟨S10x512, .f32⟩
  | 15 => ⟨S10x512, .f32⟩
  | 16 => ⟨S_, .f32⟩
  | 17 => ⟨S10, .f32⟩
  | 18 => ⟨S10x1, .f32⟩
  | 19 => ⟨S10x1, .f32⟩
  | 20 => ⟨S_, .f32⟩
  | 21 => ⟨S10x1, .f32⟩
  | 22 => ⟨S10x1, .f32⟩
  | 23 => ⟨S10x512, .f32⟩
  | 24 => ⟨S10x512, .f32⟩
  | 25 => ⟨S1x10x512, .f32⟩
  | 26 => ⟨S10x512, .f32⟩
  | 27 => ⟨S10x512, .f32⟩
  | 28 => ⟨S10x512, .f32⟩
  | 29 => ⟨S_, .f32⟩
  | 30 => ⟨S10, .f32⟩
  | 31 => ⟨S10x1, .f32⟩
  | 32 => ⟨S10x1, .f32⟩
  | 33 => ⟨S_, .f32⟩
  | 34 => ⟨S10x1, .f32⟩
  | 35 => ⟨S10x1, .f32⟩
  | 36 => ⟨S10x512, .f32⟩
  | 37 => ⟨S10x512, .f32⟩
  | 38 => ⟨S1x10x512, .f32⟩
  | 39 => ⟨S10x512, .f32⟩
  | 40 => ⟨S10x512, .f32⟩
  | 41 => ⟨S10x512, .f32⟩
  | 42 => ⟨S_, .f32⟩
  | 43 => ⟨S10, .f32⟩
  | 44 => ⟨S10x1, .f32⟩
  | 45 => ⟨S10x1, .f32⟩
  | 46 => ⟨S_, .f32⟩
  | 47 => ⟨S10x1, .f32⟩
  | 48 => ⟨S10x1, .f32⟩
  | 49 => ⟨S10x512, .f32⟩
  | 50 => ⟨S10x512, .f32⟩
  | 51 => ⟨S1x10x512, .f32⟩
  | 52 => ⟨S10x512, .f32⟩
  | 53 => ⟨S10x512, .f32⟩
  | 54 => ⟨S10x512, .f32⟩
  | 55 => ⟨S_, .f32⟩
  | 56 => ⟨S10, .f32⟩
  | 57 => ⟨S10x1, .f32⟩
  | 58 => ⟨S10x1, .f32⟩
  | 59 => ⟨S_, .f32⟩
  | 60 => ⟨S10x1, .f32⟩
  | 61 => ⟨S10x1, .f32⟩
  | 62 => ⟨S10x512, .f32⟩
  | 63 => ⟨S10x512, .f32⟩
  | 64 => ⟨S1x10x512, .f32⟩
  | 65 => ⟨S10x512, .f32⟩
  | 66 => ⟨S10x512, .f32⟩
  | 67 => ⟨S10x512, .f32⟩
  | 68 => ⟨S_, .f32⟩
  | 69 => ⟨S10, .f32⟩
  | 70 => ⟨S10x1, .f32⟩
  | 71 => ⟨S10x1, .f32⟩
  | 72 => ⟨S_, .f32⟩
  | 73 => ⟨S10x1, .f32⟩
  | 74 => ⟨S10x1, .f32⟩
  | 75 => ⟨S10x512, .f32⟩
  | 76 => ⟨S10x512, .f32⟩
  | 77 => ⟨S1x10x512, .f32⟩
  | 78 => ⟨S10x512, .f32⟩
  | 79 => ⟨S10x512, .f32⟩
  | 80 => ⟨S10x512, .f32⟩
  | 81 => ⟨S_, .f32⟩
  | 82 => ⟨S10, .f32⟩
  | 83 => ⟨S10x1, .f32⟩
  | 84 => ⟨S10x1, .f32⟩
  | 85 => ⟨S_, .f32⟩
  | 86 => ⟨S10x1, .f32⟩
  | 87 => ⟨S10x1, .f32⟩
  | 88 => ⟨S10x512, .f32⟩
  | 89 => ⟨S10x512, .f32⟩
  | 90 => ⟨S1x10x512, .f32⟩
  | 91 => ⟨S10x512, .f32⟩
  | 92 => ⟨S10x512, .f32⟩
  | 93 => ⟨S10x512, .f32⟩
  | 94 => ⟨S_, .f32⟩
  | 95 => ⟨S10, .f32⟩
  | 96 => ⟨S10x1, .f32⟩
  | 97 => ⟨S10x1, .f32⟩
  | 98 => ⟨S_, .f32⟩
  | 99 => ⟨S10x1, .f32⟩
  | 100 => ⟨S10x1, .f32⟩
  | 101 => ⟨S10x512, .f32⟩
  | 102 => ⟨S10x512, .f32⟩
  | 103 => ⟨S1x10x512, .f32⟩
  | 104 => ⟨S10x512, .f32⟩
  | 105 => ⟨S10x512, .f32⟩
  | 106 => ⟨S10x512, .f32⟩
  | 107 => ⟨S_, .f32⟩
  | 108 => ⟨S10, .f32⟩
  | 109 => ⟨S10x1, .f32⟩
  | 110 => ⟨S10x1, .f32⟩
  | 111 => ⟨S_, .f32⟩
  | 112 => ⟨S10x1, .f32⟩
  | 113 => ⟨S10x1, .f32⟩
  | 114 => ⟨S10x512, .f32⟩
  | 115 => ⟨S10x512, .f32⟩
  | 116 => ⟨S1x10x512, .f32⟩
  | 117 => ⟨S10x512, .f32⟩
  | 118 => ⟨S10x512, .f32⟩
  | 119 => ⟨S10x512, .f32⟩
  | 120 => ⟨S_, .f32⟩
  | 121 => ⟨S10, .f32⟩
  | 122 => ⟨S10x1, .f32⟩
  | 123 => ⟨S10x1, .f32⟩
  | 124 => ⟨S_, .f32⟩
  | 125 => ⟨S10x1, .f32⟩
  | 126 => ⟨S10x1, .f32⟩
  | 127 => ⟨S10x512, .f32⟩
  | _ => ⟨S16x512x32x32, .f32⟩

abbrev hbmTy0_2 (i : Nat) : BufTy := match i % 128 with
  | 0 => ⟨S10x512, .f32⟩
  | 1 => ⟨S1x10x512, .f32⟩
  | 2 => ⟨S10x512, .f32⟩
  | 3 => ⟨S10x512, .f32⟩
  | 4 => ⟨S10x512, .f32⟩
  | 5 => ⟨S_, .f32⟩
  | 6 => ⟨S10, .f32⟩
  | 7 => ⟨S10x1, .f32⟩
  | 8 => ⟨S10x1, .f32⟩
  | 9 => ⟨S_, .f32⟩
  | 10 => ⟨S10x1, .f32⟩
  | 11 => ⟨S10x1, .f32⟩
  | 12 => ⟨S10x512, .f32⟩
  | 13 => ⟨S10x512, .f32⟩
  | 14 => ⟨S1x10x512, .f32⟩
  | 15 => ⟨S10x512, .f32⟩
  | 16 => ⟨S10x512, .f32⟩
  | 17 => ⟨S10x512, .f32⟩
  | 18 => ⟨S_, .f32⟩
  | 19 => ⟨S10, .f32⟩
  | 20 => ⟨S10x1, .f32⟩
  | 21 => ⟨S10x1, .f32⟩
  | 22 => ⟨S_, .f32⟩
  | 23 => ⟨S10x1, .f32⟩
  | 24 => ⟨S10x1, .f32⟩
  | 25 => ⟨S10x512, .f32⟩
  | 26 => ⟨S10x512, .f32⟩
  | 27 => ⟨S1x10x512, .f32⟩
  | 28 => ⟨S10x512, .f32⟩
  | 29 => ⟨S10x512, .f32⟩
  | 30 => ⟨S10x512, .f32⟩
  | 31 => ⟨S_, .f32⟩
  | 32 => ⟨S10, .f32⟩
  | 33 => ⟨S10x1, .f32⟩
  | 34 => ⟨S10x1, .f32⟩
  | 35 => ⟨S_, .f32⟩
  | 36 => ⟨S10x1, .f32⟩
  | 37 => ⟨S10x1, .f32⟩
  | 38 => ⟨S10x512, .f32⟩
  | 39 => ⟨S10x512, .f32⟩
  | 40 => ⟨S1x10x512, .f32⟩
  | 41 => ⟨S10x512, .f32⟩
  | 42 => ⟨S10x512, .f32⟩
  | 43 => ⟨S10x512, .f32⟩
  | 44 => ⟨S_, .f32⟩
  | 45 => ⟨S10, .f32⟩
  | 46 => ⟨S10x1, .f32⟩
  | 47 => ⟨S10x1, .f32⟩
  | 48 => ⟨S_, .f32⟩
  | 49 => ⟨S10x1, .f32⟩
  | 50 => ⟨S10x1, .f32⟩
  | 51 => ⟨S10x512, .f32⟩
  | 52 => ⟨S10x512, .f32⟩
  | 53 => ⟨S1x10x512, .f32⟩
  | 54 => ⟨S10x512, .f32⟩
  | 55 => ⟨S10x512, .f32⟩
  | 56 => ⟨S10x512, .f32⟩
  | 57 => ⟨S_, .f32⟩
  | 58 => ⟨S10, .f32⟩
  | 59 => ⟨S10x1, .f32⟩
  | 60 => ⟨S10x1, .f32⟩
  | 61 => ⟨S_, .f32⟩
  | 62 => ⟨S10x1, .f32⟩
  | 63 => ⟨S10x1, .f32⟩
  | 64 => ⟨S10x512, .f32⟩
  | 65 => ⟨S10x512, .f32⟩
  | _ => ⟨S16x512x32x32, .f32⟩

abbrev hbmTy (i : Nat) : BufTy := match i / 128 with
  | 0 => hbmTy0_0 i
  | 1 => hbmTy0_1 i
  | 2 => hbmTy0_2 i
  | _ => ⟨S16x512x32x32, .f32⟩

abbrev bufTy : (tb : Table) → Fin (tcTables nBuf tb) → BufTy
  | .hbm, ⟨i, _⟩ => hbmTy i
  | _, _ => ⟨S16x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_values : Ref sig .tc := ⟨.hbm, 43, rfl⟩
abbrev main_indices : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_14 : Ref sig .tc := ⟨.hbm, 86, rfl⟩
abbrev main_v66 : Ref sig .tc := ⟨.hbm, 87, rfl⟩
abbrev main_v67 : Ref sig .tc := ⟨.hbm, 88, rfl⟩
abbrev main_cst_15 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_values_16 : Ref sig .tc := ⟨.hbm, 98, rfl⟩
abbrev main_indices_17 : Ref sig .tc := ⟨.hbm, 99, rfl⟩
abbrev main_v76 : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_call0_v3 : Ref sig .tc := ⟨.hbm, 104, rfl⟩
abbrev main_call0_v4 : Ref sig .tc := ⟨.hbm, 105, rfl⟩
abbrev main_v77 : Ref sig .tc := ⟨.hbm, 106, rfl⟩
abbrev main_cst_18 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_19 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_20 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_21 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_22 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_23 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_24 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_25 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_26 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_27 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_28 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_29 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_cst_30 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_31 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_cst_32 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_cst_33 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_cst_34 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_cst_35 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_cst_36 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_cst_37 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_cst_38 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_cst_39 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_cst_40 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_cst_41 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_cst_42 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_cst_43 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_cst_44 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_cst_45 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_cst_46 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_cst_47 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_cst_48 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_cst_49 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_cst_50 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩

abbrev nD : Nat := 1
abbrev τ : Topo := Topo.v7x

variable {F : FTy → Type} [FloatOps F]
-- ==== Proof.Spec.lean ====
/- The mathematics of one batch, on real numbers: a token `n` of the batch is the column `X · n`, a memory item `i` is
   the row `K i`. The kernel's payloads (Proof/Payloads.lean) and the reference's terms (Proof/Reference.lean) are both
   read as these functions. -/
module

public import Idealize.ShloMosaic.PureOps.Ideal
public import Idealize.ShloMosaic.Lib.SortFacts
public import Idealize.ShloMosaic.Lib.Pipeline.ValueKit

@[expose] public section

noncomputable section

namespace Cert.Proof

open Idealize.ShloMosaic

/-! ## The greatest entry of a row of ten, and the one after it, ties to the lower index -/

/-- `a` is listed before `b` when its entry is the greater. -/
def before (f : Fin 10 → ℝ) (a b : Fin 10) : Bool := decide (f b < f a)

/-- The position of the `k`-th greatest entry, equal entries in index order. -/
def top (f : Fin 10 → ℝ) (k : Fin 10) : Fin 10 := sortedFrom (before f) k

/-- The order `top` lists by, with ties broken by the index. -/
def lexBefore (f : Fin 10 → ℝ) (a b : Fin 10) : Bool := decide (f b < f a ∨ (f a = f b ∧ a < b))

theorem stableSort_lex (f : Fin 10 → ℝ) (l : List (Fin 10)) (hl : l.Pairwise (· < ·)) :
    stableSort (before f) l = stableSort (lexBefore f) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [before, lexBefore, not_lt.mpr hab.le]

theorem top_eq_lex (f : Fin 10 → ℝ) : top f = sortedFrom (lexBefore f) := by
  funext k
  have h : sortPositions 10 (before f) = sortPositions 10 (lexBefore f) :=
    stableSort_lex f _ (List.pairwise_lt_finRange 10)
  simp only [top, sortedFrom, List.get_eq_getElem, h, Fin.val_cast]

theorem top_ordered (f : Fin 10 → ℝ) {i j : Fin 10} (h : i < j) :
    f (top f j) < f (top f i) ∨ (f (top f j) = f (top f i) ∧ top f i < top f j) := by
  have hne : top f i ≠ top f j := fun e => h.ne (sortedFrom_injective _ e)
  have hno : lexBefore f (top f j) (top f i) = false := by
    rw [top_eq_lex]
    refine sortedFrom_noInversion (lexBefore f) (lexBefore f) ?_ (fun _ _ h => h) ?_ i j h
    · intro a b hab
      simp only [lexBefore, decide_eq_true_eq, decide_eq_false_iff_not] at hab ⊢
      rcases hab with h | ⟨h, h'⟩
      · rintro (h2 | ⟨h2, -⟩)
        · exact lt_asymm h h2
        · exact h.ne h2
      · rintro (h2 | ⟨-, h2⟩)
        · exact h2.ne h
        · exact lt_asymm h' h2
    · intro a b c hab hbc
      simp only [lexBefore, decide_eq_false_iff_not, not_or, not_lt, not_and] at hab hbc ⊢
      refine ⟨hab.1.trans hbc.1, fun e => ?_⟩
      have e1 : f a = f b := le_antisymm hab.1 (hbc.1.trans e.symm.le)
      have e2 : f b = f c := e1.symm.trans e
      exact (hbc.2 e2).trans (hab.2 e1)
  simp only [lexBefore, decide_eq_false_iff_not, not_or, not_lt, not_and] at hno
  rcases hno.1.lt_or_eq with h | h
  · exact .inl h
  · exact .inr ⟨h, lt_of_le_of_ne (hno.2 h) hne⟩

theorem top_zero_max (f : Fin 10 → ℝ) (i : Fin 10) : f i ≤ f (top f 0) := by
  obtain ⟨k, rfl⟩ : ∃ k, top f k = i := sortedFrom_surjective _ i
  rcases eq_or_ne k 0 with rfl | hk
  · exact le_rfl
  · rcases top_ordered f (Fin.pos_of_ne_zero hk) with h | ⟨h, -⟩
    · exact h.le
    · exact h.le

theorem top_zero_first (f : Fin 10 → ℝ) {i : Fin 10} (h : f i = f (top f 0)) : top f 0 ≤ i := by
  obtain ⟨k, rfl⟩ : ∃ k, top f k = i := sortedFrom_surjective _ i
  rcases eq_or_ne k 0 with rfl | hk
  · exact le_rfl
  · rcases top_ordered f (Fin.pos_of_ne_zero hk) with h' | ⟨-, h'⟩
    · exact absurd h h'.ne
    · exact h'.le

theorem top_one_ne (f : Fin 10 → ℝ) : top f 1 ≠ top f 0 := fun e => absurd (sortedFrom_injective _ e) (by decide)

theorem top_one_max (f : Fin 10 → ℝ) {i : Fin 10} (hi : i ≠ top f 0) : f i ≤ f (top f 1) := by
  obtain ⟨k, rfl⟩ : ∃ k, top f k = i := sortedFrom_surjective _ i
  rcases eq_or_ne k 1 with rfl | hk
  · exact le_rfl
  · have h0 : k ≠ 0 := fun e => hi (congrArg _ e)
    rcases top_ordered f (i := 1) (j := k) (by omega) with h | ⟨h, -⟩
    · exact h.le
    · exact h.le

theorem top_one_first (f : Fin 10 → ℝ) {i : Fin 10} (hi : i ≠ top f 0) (h : f i = f (top f 1)) : top f 1 ≤ i := by
  obtain ⟨k, rfl⟩ : ∃ k, top f k = i := sortedFrom_surjective _ i
  rcases eq_or_ne k 1 with rfl | hk
  · exact le_rfl
  · have h0 : k ≠ 0 := fun e => hi (congrArg _ e)
    rcases top_ordered f (i := 1) (j := k) (by omega) with h' | ⟨-, h'⟩
    · exact absurd h h'.ne
    · exact h'.le

/-- `top` reads only the order of the entries. -/
theorem top_congr (f f' : Fin 10 → ℝ) (h : ∀ a b, f' b < f' a ↔ f b < f a) : top f' = top f := by
  have : before f' = before f := by
    funext a b
    simp [before, h]
  unfold top
  rw [this]

/-! ## Folds and sums of real entries -/

theorem negInf : Ideal.ofBits .f32 0xFF800000#32 = ⊥ := by simp [Ideal.ofBits, Ideal.ieee]

theorem posInf : Ideal.ofBits .f32 0x7F800000#32 = ⊤ := by simp [Ideal.ofBits, Ideal.ieee]

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem fold_max {ι : Type} [Fintype ι] (F : ι → EReal) (b : EReal) (g : ι) (hb : b ≤ F g) (h : ∀ i, F i ≤ F g) :
    Finset.univ.fold max b F = F g :=
  le_antisymm ((Finset.fold_max_le _).mpr ⟨hb, fun i _ => h i⟩) ((Finset.le_fold_max _).mpr (.inr ⟨g, Finset.mem_univ g, le_rfl⟩))

/-- The least index at which `P` holds, found as the kernel finds it. -/
theorem fold_first (P : Fin 10 → Prop) [DecidablePred P] (g : Fin 10) (hg : P g) (hmin : ∀ i, P i → g ≤ i) :
    Finset.univ.fold IntOp.minsi (2147483647#32) (fun i : Fin 10 => if P i then BitVec.ofNat 32 i.val else 10#32)
      = BitVec.ofNat 32 g.val := by
  have h : ∀ i : Fin 10, IntOp.minsi (BitVec.ofNat 32 g.val) (if P i then BitVec.ofNat 32 i.val else 10#32) = BitVec.ofNat 32 g.val := by
    intro i
    split
    · rename_i hi
      exact (by decide : ∀ g i : Fin 10, g ≤ i → IntOp.minsi (BitVec.ofNat 32 g.val) (BitVec.ofNat 32 i.val) = BitVec.ofNat 32 g.val) g i (hmin i hi)
    · exact (by decide : ∀ g : Fin 10, IntOp.minsi (BitVec.ofNat 32 g.val) 10#32 = BitVec.ofNat 32 g.val) g
  have key : ∀ s : Finset (Fin 10),
      IntOp.minsi (BitVec.ofNat 32 g.val) (s.fold IntOp.minsi (2147483647#32) (fun i : Fin 10 => if P i then BitVec.ofNat 32 i.val else 10#32)) = BitVec.ofNat 32 g.val
      ∧ (g ∈ s → s.fold IntOp.minsi (2147483647#32) (fun i : Fin 10 => if P i then BitVec.ofNat 32 i.val else 10#32) = BitVec.ofNat 32 g.val) := by
    intro s
    induction s using Finset.induction_on with
    | empty =>
      refine ⟨?_, fun h => absurd h (Finset.notMem_empty _)⟩
      rw [Finset.fold_empty]
      exact (by decide : ∀ g : Fin 10, IntOp.minsi (BitVec.ofNat 32 g.val) 2147483647#32 = BitVec.ofNat 32 g.val) g
    | insert a s ha ih =>
      rw [Finset.fold_insert ha]
      refine ⟨?_, fun hm => ?_⟩
      · rw [← Std.Associative.assoc (op := IntOp.minsi), h a, ih.1]
      · rcases Finset.mem_insert.mp hm with rfl | hm
        · rw [if_pos hg, ih.1]
        · rw [ih.2 hm, Std.Commutative.comm (op := IntOp.minsi), h a]
  exact (key _).2 (Finset.mem_univ g)

/-! ## One batch -/

/-- The f32 constant nearest 1e-12. -/
def tiny : ℝ := 9223372 / 2 ^ 63

/-- The f32 constant nearest 1e-6. -/
def eps : ℝ := 8796093 / 2 ^ 43

theorem ofBits_tiny : Ideal.ofBits .f32 0x2B8CBCCC#32 = ((tiny : ℝ) : EReal) := by
  simp [Ideal.ofBits, Ideal.ieee, tiny, -EReal.coe_mul]; norm_num

theorem ofBits_eps : Ideal.ofBits .f32 0x358637BD#32 = ((eps : ℝ) : EReal) := by
  simp [Ideal.ofBits, Ideal.ieee, eps, -EReal.coe_mul]; norm_num

theorem ofBits_two_eps : Ideal.ofBits .f32 0x360637BD#32 = ((2 * eps : ℝ) : EReal) := by
  simp [Ideal.ofBits, Ideal.ieee, eps, -EReal.coe_mul]; norm_num

theorem ofBits_two : Ideal.ofBits .f32 0x40000000#32 = ((2 : ℝ) : EReal) := by
  simp [Ideal.ofBits, Ideal.ieee, -EReal.coe_mul]; norm_num

theorem tiny_pos : 0 < tiny := by unfold tiny; norm_num

/-- The batch's tokens: channel by token. -/
abbrev Batch := Fin 512 → Fin 1024 → ℝ

/-- The memory's items. -/
abbrev Items := Fin 10 → Fin 512 → ℝ

variable (X : Batch) (K : Items)

/-- A token's norm. -/
def nrm (n : Fin 1024) : ℝ := Real.sqrt (∑ d, X d n * X d n)

/-- A token divided by its norm. -/
def unit (d : Fin 512) (n : Fin 1024) : ℝ := X d n / nrm X n

/-- The score of an item for a token. -/
def score (i : Fin 10) (n : Fin 1024) : ℝ := ∑ d, K i d * unit X d n

/-- The nearest item to a token. -/
def near (n : Fin 1024) : Fin 10 := top (fun i => score X K i n) 0

/-- The second nearest. -/
def next (n : Fin 1024) : Fin 10 := top (fun i => score X K i n) 1

/-- The weights of the items for a token. -/
def weight (i : Fin 10) (n : Fin 1024) : ℝ :=
  Real.exp (score X K i n - score X K (near X K n) n) / ∑ j, Real.exp (score X K j n - score X K (near X K n) n)

/-- The item read at a token with those weights. -/
def read (d : Fin 512) (n : Fin 1024) : ℝ := ∑ i, K i d * weight X K i n

theorem exists_peak (i : Fin 10) : ∃ n, ∀ n', score X K i n' ≤ score X K i n := Finite.exists_max _

/-- A token at which an item scores highest. -/
def peak (i : Fin 10) : Fin 1024 := Classical.choose (exists_peak X K i)

theorem peak_max (i : Fin 10) (n : Fin 1024) : score X K i n ≤ score X K i (peak X K i) :=
  Classical.choose_spec (exists_peak X K i) n

/-- The share of a token in the update of an item: none unless the item is the token's nearest. -/
def share (i : Fin 10) (n : Fin 1024) : ℝ :=
  Real.exp (score X K i n - score X K i (peak X K i)) * if i = near X K n then 1 else 0

/-- The update of the memory by the batch. -/
def update (i : Fin 10) (d : Fin 512) : ℝ := ∑ n, share X K i n * unit X d n

/-- The distance of a token from an item, `eps` added to each coordinate of the difference. -/
def gap (j : Fin 10) (n : Fin 1024) : ℝ := Real.sqrt (∑ d, (unit X d n - K j d + eps) * (unit X d n - K j d + eps))

/-- The margin loss of a token. -/
def loss (n : Fin 1024) : ℝ := max (gap X K (near X K n) n - gap X K (next X K n) n + 1) 0

/-- One step of the memory: the update added, each item divided by its norm. -/
def step (u : Fin 10 → Fin 512 → ℝ) (k : Fin 10 → Fin 512 → EReal) (i : Fin 10) (d : Fin 512) : EReal :=
  Ideal.div ((u i d : EReal) + k i d) (max (Ideal.sqrt (∑ e, ((u i e : EReal) + k i e) * ((u i e : EReal) + k i e))) ((tiny : ℝ) : EReal))

/-- A token's unit vector and the item read at it, one after the other. -/
def joined (e : Fin 1024) (n : Fin 1024) : ℝ :=
  if h : e.val < 512 then unit X ⟨e.val, h⟩ n else read X K ⟨e.val - 512, by omega⟩ n

/-- The squared difference of a token and its nearest item, coordinate by coordinate. -/
def apart (n : Fin 1024) (d : Fin 512) : ℝ := (unit X d n - K (near X K n) d) * (unit X d n - K (near X K n) d)

/-- The memory after the first `b` batches. -/
def memory (X : ℕ → Batch) (K : Items) : ℕ → Fin 10 → Fin 512 → EReal
  | 0 => fun i d => ((K i d : ℝ) : EReal)
  | b + 1 => step (update (X b) K) (memory X K b)

/-- The two arguments hold real numbers, and no token's norm is below the bound: `X b` is the batch `b`, its
    32 by 32 tokens in one row. -/
structure Args (q : Fin 16 → Fin 512 → Fin 32 → Fin 32 → EReal) (k : Fin 10 → Fin 512 → EReal) (X : ℕ → Batch) (K : Items) : Prop where
  tok : ∀ (b : Fin 16) (d : Fin 512) (n : Fin 1024),
    q b d ⟨n.val / 32, by omega⟩ ⟨n.val % 32, by omega⟩ = ((X b.val d n : ℝ) : EReal)
  key : ∀ i d, k i d = ((K i d : ℝ) : EReal)
  norm : ∀ (b : Fin 16) n, tiny ≤ nrm (X b.val) n

variable {X K}

theorem nrm_pos {n : Fin 1024} (h : tiny ≤ nrm X n) : 0 < nrm X n := tiny_pos.trans_le h

theorem sum_sq_eq (n : Fin 1024) : nrm X n * nrm X n = ∑ d, X d n * X d n :=
  Real.mul_self_sqrt (Finset.sum_nonneg fun d _ => mul_self_nonneg _)

theorem sum_unit_sq {n : Fin 1024} (h : tiny ≤ nrm X n) : ∑ d, unit X d n * unit X d n = 1 := by
  have h0 := (nrm_pos h).ne'
  have : ∀ d, unit X d n * unit X d n = (X d n * X d n) / (nrm X n * nrm X n) := fun d => by unfold unit; field_simp
  simp only [this]
  rw [← Finset.sum_div, ← sum_sq_eq, div_self (mul_ne_zero h0 h0)]

/-- The square of a distance, expanded for a token of norm one. -/
theorem gap_sq {n : Fin 1024} (h : tiny ≤ nrm X n) (j : Fin 10) :
    ∑ d, (unit X d n - K j d + eps) * (unit X d n - K j d + eps)
      = 1 - 2 * score X K j n + ∑ d, K j d * K j d + 2 * eps * (∑ d, unit X d n - ∑ d, K j d) + 512 * (eps * eps) := by
  rw [← sum_unit_sq h]
  have e : ∀ d, (unit X d n - K j d + eps) * (unit X d n - K j d + eps)
      = unit X d n * unit X d n - 2 * (K j d * unit X d n) + K j d * K j d + 2 * eps * unit X d n - 2 * eps * K j d + eps * eps := fun d => by ring
  simp only [e, Finset.sum_add_distrib, Finset.sum_sub_distrib, ← Finset.mul_sum, Finset.sum_const, Finset.card_univ, Fintype.card_fin, nsmul_eq_mul]
  unfold score
  push_cast
  ring

end Cert.Proof
-- ==== Proof.Precondition.lean ====
/- What the precondition gives: the arguments are real numbers, and every token's norm is at least the bound. -/
module

public import proofs.«01_k».proof.Proof.Gen.Pre_nondegenerate
public import proofs.«01_k».proof.Proof.Spec
public import Idealize.ShloMosaic.Lib.IdealHost

@[expose] public section

set_option maxRecDepth 16384

noncomputable section

namespace Cert.Proof

open Idealize.ShloMosaic Cert.Pre_nondegenerate

/-! ## Conjunctions of bits -/

theorem and_bits (a b : BitVec 1) (h : IntOp.andi a b = 1#1) : a = 1#1 ∧ b = 1#1 := by
  revert a b
  decide

theorem fold_bits {ι : Type} (s : Finset ι) (f : ι → BitVec 1) (h : s.fold IntOp.andi (1#1) f = 1#1) : ∀ i ∈ s, f i = 1#1 := by
  classical
  induction s using Finset.induction_on with
  | empty => simp
  | insert a s ha ih =>
    rw [Finset.fold_insert ha] at h
    obtain ⟨h1, h2⟩ := and_bits _ _ h
    intro i hi
    rcases Finset.mem_insert.mp hi with rfl | hi
    · exact h1
    · exact ih h2 i hi

theorem of_bit {p : Prop} [Decidable p] (h : BitVec.ofBool (decide p) = 1#1) : p := by
  by_contra hp
  rw [decide_eq_false hp] at h
  exact absurd h (by decide)

/-! ## Sums of squares of extended reals -/

theorem square_nonneg (x : EReal) : 0 ≤ x * x := by
  induction x with
  | bot => simp
  | top => simp
  | coe r => exact_mod_cast mul_self_nonneg r

theorem sum_squares_top {ι : Type} [Fintype ι] (f : ι → EReal) (i : ι) (h : f i * f i = ⊤) : ∑ j, f j * f j = ⊤ := by
  classical
  rw [← Finset.add_sum_erase _ _ (Finset.mem_univ i), h]
  refine EReal.top_add_of_ne_bot ?_
  exact ne_of_gt (lt_of_lt_of_le EReal.bot_lt_zero (Finset.sum_nonneg fun j _ => square_nonneg _))

theorem real_of_sum_squares {ι : Type} [Fintype ι] (f : ι → EReal) (h : Ideal.sqrt (∑ j, f j * f j) < ⊤) (i : ι) :
    f i = ((f i).toReal : EReal) := by
  refine (EReal.coe_toReal ?_ ?_).symm
  · intro e
    rw [sum_squares_top f i (by rw [e]; rfl)] at h
    exact absurd h (lt_irrefl _)
  · intro e
    rw [sum_squares_top f i (by rw [e]; rfl)] at h
    exact absurd h (lt_irrefl _)

theorem real_of_abs (x : EReal) (h : FloatOps.absf (F := Ideal) (φ := .f32) x < ⊤) : x = (x.toReal : EReal) := by
  refine (EReal.coe_toReal ?_ ?_).symm
  · rintro rfl
    exact absurd h (by decide)
  · rintro rfl
    exact absurd h (by decide)

/-! ## The arguments -/

variable {q : FVec Ideal S16x512x32x32 .f32} {k : FVec Ideal S10x512 .f32}

theorem pre_parts (h : Cert.Pre_nondegenerate.fn (F := Ideal) q k = fun _ => 1#1) :
    (∀ i d, FloatOps.absf (F := Ideal) (φ := .f32) (k (ix2 i d)) < ⊤)
      ∧ (∀ b y x, Ideal.sqrt (∑ d, q (ix4 b d y x) * q (ix4 b d y x)) < ⊤)
      ∧ ∀ b y x, ((tiny : ℝ) : EReal) ≤ Ideal.sqrt (∑ d, q (ix4 b d y x) * q (ix4 b d y x)) := by
  have h' := congrFun h ix0
  unfold Cert.Pre_nondegenerate.fn at h'
  pointwise at h'
  obtain ⟨h1, h3⟩ := and_bits _ _ h'
  obtain ⟨h1, h2⟩ := and_bits _ _ h1
  rw [← posInf, ← ofBits_tiny]
  exact ⟨fun i d => of_bit (fold_bits _ _ h1 (i, d) (Finset.mem_univ _)),
    fun b y x => of_bit (fold_bits _ _ h2 (b, y, x) (Finset.mem_univ _)),
    fun b y x => of_bit (fold_bits _ _ h3 (b, y, x) (Finset.mem_univ _))⟩

/-- The precondition's arguments are real, their tokens of a norm not below the bound. -/
theorem args_of_pre (h : Cert.Pre_nondegenerate.fn (F := Ideal) q k = fun _ => 1#1) :
    ∃ (X : ℕ → Batch) (K : Items), Args (fun b d y x => q (ix4 b d y x)) (fun i d => k (ix2 i d)) X K := by
  obtain ⟨hk, hs, ht⟩ := pre_parts h
  let X : ℕ → Batch := fun b d n => if hb : b < 16 then (q (ix4 ⟨b, hb⟩ d ⟨n.val / 32, by omega⟩ ⟨n.val % 32, by omega⟩)).toReal else 0
  have tok : ∀ (b : Fin 16) (d : Fin 512) (n : Fin 1024),
      q (ix4 b d ⟨n.val / 32, by omega⟩ ⟨n.val % 32, by omega⟩) = ((X b.val d n : ℝ) : EReal) := fun b d n => by
    simp only [X, dif_pos b.isLt]
    exact real_of_sum_squares (fun d => q (ix4 b d ⟨n.val / 32, by omega⟩ ⟨n.val % 32, by omega⟩)) (hs b _ _) d
  refine ⟨X, fun i d => (k (ix2 i d)).toReal, tok, fun i d => real_of_abs _ (hk i d), fun b n => ?_⟩
  have e := ht b ⟨n.val / 32, by omega⟩ ⟨n.val % 32, by omega⟩
  simp only [tok, ← EReal.coe_mul, coe_sum, Ideal.sqrt_coe] at e
  rw [if_neg (not_lt.mpr (Finset.sum_nonneg fun d _ => mul_self_nonneg _))] at e
  exact EReal.coe_le_coe_iff.mp e

end Cert.Proof
-- ==== Proof.Payloads.lean ====
/- What the kernel's payloads hold at an index, for one batch whose tokens and items are real: the functions of
   Proof/Spec.lean. -/
module

public import proofs.«01_k».proof.Proof.Gen.KernelIdeal.Skeleton
public import proofs.«01_k».proof.Proof.Spec
public import Idealize.ShloMosaic.Lib.Pointwise
public import Idealize.ShloMosaic.Lib.Pipeline.ValueKit

@[expose] public section

set_option maxRecDepth 16384

noncomputable section

namespace Cert.Proof.Kernel

open Idealize.ShloMosaic Cert.KernelIdeal Cert.KernelIdeal.Gen Cert.Proof

/-- A batch's block and the memory's items are real, and every token's norm is at least `tiny`. -/
structure Holds (X : Batch) (K : Items) (k : Vec Ideal S10x512 .f32) (v : Vec Ideal S1x512x1024 .f32) : Prop where
  key : ∀ i d, k (ix2 i d) = ((K i d : ℝ) : EReal)
  tok : ∀ d n, v (ix3 0 d n) = ((X d n : ℝ) : EReal)
  norm : ∀ n, tiny ≤ nrm X n

/-- The kernel's row of ten item indices. -/
abbrev items : IVec S10x1024 32 := iota .tc S10x1024 32 [0] iota_S10x1024_d0_w32

variable {X : Batch} {K : Items} {k : Vec Ideal S10x512 .f32} {v : Vec Ideal S1x512x1024 .f32}

theorem pay5 (h : Holds X K k v) (n : Fin 1024) : k0_pay5 v (ix2 0 n) = ((1 / nrm X n : ℝ) : EReal) := by
  pointwise [k0_pay5, k0_pay3, k0_pay4]
  simp only [h.tok, ofBits_tiny, ← EReal.coe_mul, coe_sum, Ideal.sqrt_coe]
  rw [if_neg (not_lt.mpr (Finset.sum_nonneg fun d _ => mul_self_nonneg _))]
  change Ideal.div 1 (max ((nrm X n : ℝ) : EReal) _) = _
  rw [max_eq_left (EReal.coe_le_coe_iff.mpr (h.norm n)), Ideal.div_coe (nrm_pos (h.norm n)).ne', one_mul]

theorem pay6 (h : Holds X K k v) (d : Fin 512) (n : Fin 1024) : k0_pay6 v (ix2 d n) = ((unit X d n : ℝ) : EReal) := by
  pointwise [k0_pay6, k0_pay3]
  rw [h.tok, pay5 h, ← EReal.coe_mul]
  unfold unit
  rw [mul_one_div]

theorem pay8 (h : Holds X K k v) (i : Fin 10) (n : Fin 1024) : k0_pay8 k v (ix2 i n) = ((score X K i n : ℝ) : EReal) := by
  pointwise [k0_pay8, k0_pay7, k0_pay3, k0_pay4]
  simp only [h.key, h.tok, pay5 h, ← EReal.coe_mul, coe_sum, Finset.sum_mul]
  refine EReal.coe_eq_coe_iff.mpr (Finset.sum_congr rfl fun d _ => ?_)
  unfold unit
  ring

theorem pay9 (h : Holds X K k v) (n : Fin 1024) : k0_pay9 k v (ix2 0 n) = ((∑ d, unit X d n : ℝ) : EReal) := by
  pointwise [k0_pay9, k0_pay7, k0_pay3, k0_pay4]
  simp only [h.tok, pay5 h, ← EReal.coe_mul, coe_sum, Finset.sum_mul, mul_one_div]
  simp only [unit, Finset.sum_div]

theorem pay10 (h : Holds X K k v) (n : Fin 1024) :
    k0_pay10 k v (ix2 0 n) = ((score X K (near X K n) n : ℝ) : EReal) := by
  pointwise [k0_pay10]
  simp only [pay8 h, negInf]
  exact fold_max (fun i => ((score X K i n : ℝ) : EReal)) ⊥ (near X K n) bot_le
    fun i => EReal.coe_le_coe_iff.mpr (top_zero_max (fun i => score X K i n) i)

theorem sum_exp_pos (n : Fin 1024) : 0 < ∑ j, Real.exp (score X K j n - score X K (near X K n) n) :=
  Finset.sum_pos (fun j _ => Real.exp_pos _) Finset.univ_nonempty

theorem pay11 (h : Holds X K k v) (i : Fin 10) (n : Fin 1024) :
    k0_pay11 k v (ix2 i n) = ((weight X K i n : ℝ) : EReal) := by
  pointwise [k0_pay11]
  simp only [pay8 h, pay10 h, ← EReal.coe_sub, Ideal.exp_coe, coe_sum]
  rw [Ideal.div_coe (sum_exp_pos n).ne', ← EReal.coe_mul, mul_one_div]
  rfl

theorem pay12 (h : Holds X K k v) (n : Fin 1024) : k0_pay12 k v (ix2 0 n) = BitVec.ofNat 32 (near X K n).val := by
  pointwise [k0_pay12]
  simp only [pay8 h, pay10 h, EReal.coe_eq_coe_iff]
  exact fold_first _ _ rfl fun i hi => top_zero_first (fun i => score X K i n) hi

theorem eq_word (i j : Fin 10) : IntOp.cmpi .eq (BitVec.ofNat 32 i.val) (BitVec.ofNat 32 j.val) = if i = j then 1#1 else 0#1 := by
  revert i j
  decide

theorem pay13 (h : Holds X K k v) (i : Fin 10) (n : Fin 1024) :
    k0_pay13 k v (ix2 i n) = if i = near X K n then 1#1 else 0#1 := by
  pointwise [k0_pay13]
  rw [pay12 h, eq_word]

theorem sitofp_bit (p : Prop) [Decidable p] :
    FloatOps.sitofp (F := Ideal) FTy.f32 (BitVec.setWidth 32 (if p then 1#1 else 0#1)) = (((if p then 1 else 0 : ℝ)) : EReal) := by
  split
  · show (((BitVec.setWidth 32 1#1).toInt : ℝ) : EReal) = _
    norm_num
  · show (((BitVec.setWidth 32 0#1).toInt : ℝ) : EReal) = _
    norm_num

theorem pay17 (h : Holds X K k v) (i : Fin 10) (n : Fin 1024) :
    k0_pay17 (F := Ideal) (k0_pay13 k v) (ix2 i n) = ((if i = near X K n then 1 else 0 : ℝ) : EReal) := by
  pointwise [k0_pay17]
  rw [pay13 h, sitofp_bit]

theorem pay15 (h : Holds X K k v) (i : Fin 10) (n : Fin 1024) :
    k0_pay15 (k0_pay8 k v) (k0_pay13 k v) (k0_pay14 (F := Ideal)) (ix2 i n)
      = if i = near X K n then ⊥ else ((score X K i n : ℝ) : EReal) := by
  pointwise [k0_pay15, k0_pay14]
  rw [pay13 h, pay8 h, negInf]
  split <;> rfl

theorem pay16 (h : Holds X K k v) (n : Fin 1024) :
    k0_pay16 (k0_pay8 k v) (k0_pay13 k v) (k0_pay14 (F := Ideal)) (ix2 0 n) = ((score X K (next X K n) n : ℝ) : EReal) := by
  pointwise [k0_pay16]
  simp only [pay15 h, negInf]
  refine (fold_max (fun i => if i = near X K n then ⊥ else ((score X K i n : ℝ) : EReal)) ⊥ (next X K n) bot_le fun i => ?_).trans ?_
  · rw [if_neg (show next X K n ≠ near X K n from top_one_ne _)]
    split
    · exact bot_le
    · rename_i hi
      exact EReal.coe_le_coe_iff.mpr (top_one_max (fun i => score X K i n) hi)
  · exact if_neg (top_one_ne _)

theorem pay18 (h : Holds X K k v) (i : Fin 10) (n : Fin 1024) :
    k0_pay18 (k0_pay8 k v) items (k0_pay13 k v) (k0_pay14 (F := Ideal)) (ix2 i n) = ((if i = next X K n then 1 else 0 : ℝ) : EReal) := by
  pointwise [k0_pay18]
  simp only [pay15 h, pay16 h]
  have e : Finset.univ.fold IntOp.minsi (2147483647#32)
      (fun x : Fin 10 => if (if x = near X K n then ⊥ else ((score X K x n : ℝ) : EReal)) = ((score X K (next X K n) n : ℝ) : EReal)
        then BitVec.ofNat 32 x.val else 10#32) = BitVec.ofNat 32 (next X K n).val := by
    refine fold_first _ _ (if_neg (top_one_ne _)) fun i hi => ?_
    split at hi
    · exact absurd hi (EReal.bot_ne_coe _)
    · rename_i hne
      exact top_one_first (fun i => score X K i n) hne (EReal.coe_eq_coe_iff.mp hi)
  rw [e, eq_word, sitofp_bit]

/-- A one-hot sum picks its entry. -/
theorem sum_pick (j : Fin 10) (f : Fin 10 → ℝ) : ∑ i, f i * (if i = j then 1 else 0 : ℝ) = f j := by
  simp

theorem pay20 (h : Holds X K k v) (d : Fin 512) (n : Fin 1024) :
    k0_pay20 k (k0_pay11 k v) (k0_pay13 k v) (ix2 d n) = ((read X K d n : ℝ) : EReal) := by
  pointwise [k0_pay20, k0_pay19]
  simp only [h.key, pay11 h, ← EReal.coe_mul, coe_sum]
  rfl

theorem pay21 (h : Holds X K k v) (d : Fin 512) (n : Fin 1024) :
    k0_pay21 k (k0_pay6 v) (k0_pay11 k v) (k0_pay13 k v) (ix3 0 n d)
      = (((unit X d n - K (near X K n) d) * (unit X d n - K (near X K n) d) : ℝ) : EReal) := by
  pointwise [k0_pay21, k0_pay19]
  simp only [h.key, pay6 h, pay17 h, ← EReal.coe_mul, coe_sum, ← EReal.coe_sub, sum_pick]

theorem pay24 (h : Holds X K k v) (n : Fin 1024) :
    k0_pay24 (F := Ideal) k (k0_pay13 k v) (ix2 0 n) = ((∑ d, K (near X K n) d * K (near X K n) d : ℝ) : EReal) := by
  pointwise [k0_pay24, k0_pay22]
  simp only [h.key, pay17 h, ← EReal.coe_mul, coe_sum]
  simp

theorem pay25 (h : Holds X K k v) (n : Fin 1024) :
    k0_pay25 (F := Ideal) k (k0_pay13 k v) (ix2 0 n) = ((∑ d, K (near X K n) d : ℝ) : EReal) := by
  pointwise [k0_pay25, k0_pay23]
  simp only [h.key, pay17 h, ← EReal.coe_mul, coe_sum]
  simp

theorem pay26 (h : Holds X K k v) (n : Fin 1024) :
    k0_pay26 (F := Ideal) k (k0_pay8 k v) items (k0_pay13 k v) k0_pay14 (ix2 0 n)
      = ((∑ d, K (next X K n) d * K (next X K n) d : ℝ) : EReal) := by
  pointwise [k0_pay26, k0_pay22]
  simp only [h.key, pay18 h, ← EReal.coe_mul, coe_sum]
  simp

theorem pay27 (h : Holds X K k v) (n : Fin 1024) :
    k0_pay27 (F := Ideal) k (k0_pay8 k v) items (k0_pay13 k v) k0_pay14 (ix2 0 n) = ((∑ d, K (next X K n) d : ℝ) : EReal) := by
  pointwise [k0_pay27, k0_pay23]
  simp only [h.key, pay18 h, ← EReal.coe_mul, coe_sum]
  simp

theorem named_eps_sq : Named.named (F := Ideal) κ "d_eps_sq" (φ := .f32) 0x300CBCCC#32 = ((512 * (eps * eps) : ℝ) : EReal) := by
  refine (IdealRules.named_const.ideal_named_scalar _ _ _ _ rfl).trans ?_
  congr 1
  unfold eps
  norm_num

/-- The kernel's expansion of a distance. -/
theorem dist_eq (h : Holds X K k v) (j : Fin 10) (n : Fin 1024) :
    Ideal.sqrt (max ((1 : EReal) - ((2 : ℝ) : EReal) * ((score X K j n : ℝ) : EReal) + ((∑ d, K j d * K j d : ℝ) : EReal)
        + ((2 * eps : ℝ) : EReal) * (((∑ d, unit X d n : ℝ) : EReal) - ((∑ d, K j d : ℝ) : EReal)) + ((512 * (eps * eps) : ℝ) : EReal)) 0)
      = ((gap X K j n : ℝ) : EReal) := by
  have hnn : 0 ≤ ∑ d, (unit X d n - K j d + eps) * (unit X d n - K j d + eps) := Finset.sum_nonneg fun d _ => mul_self_nonneg _
  rw [← EReal.coe_one, ← EReal.coe_zero]
  simp only [← EReal.coe_mul, ← EReal.coe_sub, ← EReal.coe_add]
  rw [← gap_sq (h.norm n) j, max_eq_left (EReal.coe_le_coe_iff.mpr hnn), Ideal.sqrt_coe, if_neg (not_lt.mpr hnn)]
  rfl

theorem pay28 (h : Holds X K k v) (n : Fin 1024) :
    k0_pay28 (F := Ideal) (k0_pay9 k v) (k0_pay10 k v) (k0_pay16 (k0_pay8 k v) (k0_pay13 k v) k0_pay14)
        (k0_pay24 k (k0_pay13 k v)) (k0_pay25 k (k0_pay13 k v)) (k0_pay26 k (k0_pay8 k v) items (k0_pay13 k v) k0_pay14)
        (k0_pay27 k (k0_pay8 k v) items (k0_pay13 k v) k0_pay14) (ix3 0 0 n)
      = ((loss X K n : ℝ) : EReal) := by
  pointwise [k0_pay28]
  rw [pay9 h, pay10 h, pay16 h, pay24 h, pay25 h, pay26 h, pay27 h, named_eps_sq, ofBits_two, ofBits_two_eps, dist_eq h, dist_eq h]
  rw [← EReal.coe_one, ← EReal.coe_zero, ← EReal.coe_sub, ← EReal.coe_add]
  exact (EReal.coe_strictMono.monotone.map_max).symm

theorem pay32 (h : Holds X K k v) (kk : Vec Ideal S10x512 .f32) (i : Fin 10) (d : Fin 512) :
    k0_pay32 (k0_pay6 v) (k0_pay8 k v) (k0_pay17 (k0_pay13 k v)) kk (ix2 i d)
      = step (update X K) (fun i d => kk (ix2 i d)) i d := by
  pointwise [k0_pay32]
  have e : Finset.univ.fold max ⊥ (fun x : Fin 1024 => ((score X K i x : ℝ) : EReal)) = ((score X K i (peak X K i) : ℝ) : EReal) :=
    fold_max _ ⊥ (peak X K i) bot_le fun n => EReal.coe_le_coe_iff.mpr (peak_max X K i n)
  simp only [pay8 h, pay6 h, pay17 h, negInf, e, ofBits_tiny, ← EReal.coe_sub, Ideal.exp_coe, ← EReal.coe_mul, coe_sum]
  rfl

theorem pay29 (h : Holds X K k v) (n : Fin 1024) : k0_pay29 (k0_pay12 k v) (ix3 0 0 n) = BitVec.ofNat 32 (near X K n).val := by
  pointwise [k0_pay29]
  exact pay12 h n

theorem pay30 (h : Holds X K k v) (d : Fin 512) (n : Fin 1024) : k0_pay30 (k0_pay6 v) (ix3 0 d n) = ((unit X d n : ℝ) : EReal) := by
  pointwise [k0_pay30]
  exact pay6 h d n

theorem pay31 (h : Holds X K k v) (d : Fin 512) (n : Fin 1024) :
    k0_pay31 (k0_pay20 k (k0_pay11 k v) (k0_pay13 k v)) (ix3 0 d n) = ((read X K d n : ℝ) : EReal) := by
  pointwise [k0_pay31]
  exact pay20 h d n

/-! ## The stored tiles, at any index of the tile -/

theorem tile_tok (h : Holds X K k v) (x : S1x512x1024.Idx) (e n : Fin 1024) (he : (e : ℕ) = x 1) (hn : (n : ℕ) = x 2) :
    k0_pay30 (k0_pay6 v) x = ((joined X K e n : ℝ) : EReal) := by
  have hx : x = ix3 0 (x 1) (x 2) := by blk_ext
  have h1 : (x 1 : ℕ) < 512 := (x 1).isLt
  rw [hx]
  refine (pay30 h (x 1) (x 2)).trans ?_
  unfold joined
  rw [dif_pos (by omega)]
  congr 2
  · exact Fin.ext he.symm
  · exact Fin.ext hn.symm

theorem tile_read (h : Holds X K k v) (x : S1x512x1024.Idx) (e n : Fin 1024) (he : (e : ℕ) = 512 + x 1) (hn : (n : ℕ) = x 2) :
    k0_pay31 (k0_pay20 k (k0_pay11 k v) (k0_pay13 k v)) x = ((joined X K e n : ℝ) : EReal) := by
  have hx : x = ix3 0 (x 1) (x 2) := by blk_ext
  rw [hx]
  refine (pay31 h (x 1) (x 2)).trans ?_
  unfold joined
  rw [dif_neg (by omega)]
  congr 2
  · exact Fin.ext (by simp only; omega)
  · exact Fin.ext hn.symm

/-- The stored margin loss, over the keys and the block. -/
abbrev lossTile (k : Vec Ideal S10x512 .f32) (v : Vec Ideal S1x512x1024 .f32) : Vec Ideal S1x1x1024 .f32 :=
  k0_pay28 (F := Ideal) (k0_pay9 k v) (k0_pay10 k v) (k0_pay16 (k0_pay8 k v) (k0_pay13 k v) k0_pay14)
        (k0_pay24 k (k0_pay13 k v)) (k0_pay25 k (k0_pay13 k v)) (k0_pay26 k (k0_pay8 k v) items (k0_pay13 k v) k0_pay14)
        (k0_pay27 k (k0_pay8 k v) items (k0_pay13 k v) k0_pay14)

theorem tile_loss (h : Holds X K k v) (x : S1x1x1024.Idx) (n : Fin 1024) (hn : (n : ℕ) = x 2) :
    lossTile k v x = ((loss X K n : ℝ) : EReal) := by
  have hx : x = ix3 0 0 (x 2) := by blk_ext
  rw [hx]
  refine (pay28 h (x 2)).trans ?_
  rw [show (x 2 : Fin 1024) = n from Fin.ext hn.symm]

theorem tile_near (h : Holds X K k v) (x : S1x1x1024.Idx) (n : Fin 1024) (hn : (n : ℕ) = x 2) :
    k0_pay29 (k0_pay12 k v) x = BitVec.ofNat 32 (near X K n).val := by
  have hx : x = ix3 0 0 (x 2) := by blk_ext
  rw [hx]
  refine (pay29 h (x 2)).trans ?_
  rw [show (x 2 : Fin 1024) = n from Fin.ext hn.symm]

theorem tile_apart (h : Holds X K k v) (x : S1x1024x512.Idx) (n : Fin 1024) (d : Fin 512) (hn : (n : ℕ) = x 1) (hd : (d : ℕ) = x 2) :
    k0_pay21 k (k0_pay6 v) (k0_pay11 k v) (k0_pay13 k v) x = ((apart X K n d : ℝ) : EReal) := by
  have hx : x = ix3 0 (x 1) (x 2) := by blk_ext
  rw [hx]
  refine (pay21 h (x 2) (x 1)).trans ?_
  rw [show (x 1 : Fin 1024) = n from Fin.ext hn.symm, show (x 2 : Fin 512) = d from Fin.ext hd.symm]
  rfl

end Cert.Proof.Kernel
-- ==== Proof.Values.lean ====
module

public import proofs.«01_k».proof.Proof.Gen.KernelIdeal.Frame
public import proofs.«01_k».proof.Proof.Payloads

@[expose] public section

set_option maxRecDepth 16384

noncomputable section

namespace Cert.Proof.Kernel

open Idealize.ShloMosaic Idealize.ShloMosaic.TcCoe Cert.KernelIdeal Cert.KernelIdeal.Gen Cert.Proof

variable {m : (l : Loc nD τ sig) → Buf (Elt Ideal) l} {c : Dev nD} {X : ℕ → Batch} {K : Items}

/-- The kernel's two arguments on a device, as real numbers. -/
abbrev ArgsAt (m : (l : Loc nD τ sig) → Buf (Elt Ideal) l) (c : Dev nD) (X : ℕ → Batch) (K : Items) : Prop :=
  Args (fun b d y x => m ((c : Thread nD τ).loc main_arg0) (ix4 b d y x)) (fun i d => m ((c : Thread nD τ).loc main_arg1) (ix2 i d)) X K

theorem idx : ∀ t : Fin cfg0.N, win0_0.index t = ![t.val, 0, 0] ∧ win0_1.index t = ![0, 0] ∧ win0_2.index t = ![t.val, 0, 0]
    ∧ win0_3.index t = ![t.val, 0, 0] ∧ win0_4.index t = ![t.val, 0, 0] ∧ win0_5.index t = ![t.val, 0, 0] ∧ win0_6.index t = ![0, 0] :=
  (by decide +kernel : ∀ t : Fin grid0.N, _)

theorem cases0 (t : Fin cfg0.N) : (t.val % 8 = 0 ∧ ¬t.val % 8 = 7) ∨ (¬t.val % 8 = 0 ∧ ¬t.val % 8 = 7) ∨ (¬t.val % 8 = 0 ∧ t.val % 8 = 7) := by
  omega

/-- The first batch of a grid point's block. -/
abbrev fst (m : (l : Loc nD τ sig) → Buf (Elt Ideal) l) (c : Dev nD) (t : Fin cfg0.N) : Vec Ideal S1x512x1024 .f32 :=
  View.ld (iblk m c 0 t) (Rect.unit ![0, 0, 0] ![1, 512, 1024] inb_S2x512x1024_S1x512x1024_0_0_0)

/-- The second batch. -/
abbrev snd (m : (l : Loc nD τ sig) → Buf (Elt Ideal) l) (c : Dev nD) (t : Fin cfg0.N) : Vec Ideal S1x512x1024 .f32 :=
  View.ld (iblk m c 0 t) (Rect.unit ![1, 0, 0] ![1, 512, 1024] inb_S2x512x1024_S1x512x1024_1_0_0)

/-- The memory's items as the kernel reads them. -/
abbrev mem (m : (l : Loc nD τ sig) → Buf (Elt Ideal) l) (c : Dev nD) (t : Fin cfg0.N) : Vec Ideal S10x512 .f32 := iblk m c 1 t

/-- The blocks' array is the first argument, its tokens in one row. -/
theorem row_at (b : Fin 16) (d : Fin 512) (n : Fin 1024) :
    (show Vec Ideal S16x512x1024 .f32 from V m c main_v0) (ix3 b d n)
      = m ((c : Thread nD τ).loc main_arg0) (ix4 b d ⟨n.val / 32, by omega⟩ ⟨n.val % 32, by omega⟩) := by
  have e : (show Vec Ideal S16x512x1024 .f32 from V m c main_v0) = shapeCast S16x512x1024 (show Vec Ideal S16x512x32x32 .f32 from m ((c : Thread nD τ).loc main_arg0)) (by decide) := by
    unfold V
    after_results
    rfl
  rw [e]
  pointwise
  blk_ext

set_option maxHeartbeats 1000000 in
theorem fst_at (t : Fin cfg0.N) (h : 2 * t.val < 16) (d : Fin 512) (n : Fin 1024) :
    fst m c t (ix3 0 d n) = m ((c : Thread nD τ).loc main_arg0) (ix4 ⟨2 * t.val, h⟩ d ⟨n.val / 32, by omega⟩ ⟨n.val % 32, by omega⟩) := by
  refine Eq.trans ?_ (row_at ⟨2 * t.val, h⟩ d n)
  unfold fst
  pointwise
  blk_simp [iblk, idx t]
  refine congrArg (V m c main_v0) ?_
  blk_ext [idx t]

set_option maxHeartbeats 1000000 in
theorem snd_at (t : Fin cfg0.N) (h : 2 * t.val + 1 < 16) (d : Fin 512) (n : Fin 1024) :
    snd m c t (ix3 0 d n) = m ((c : Thread nD τ).loc main_arg0) (ix4 ⟨2 * t.val + 1, h⟩ d ⟨n.val / 32, by omega⟩ ⟨n.val % 32, by omega⟩) := by
  refine Eq.trans ?_ (row_at ⟨2 * t.val + 1, h⟩ d n)
  unfold snd
  pointwise
  blk_simp [iblk, idx t]
  refine congrArg (V m c main_v0) ?_
  blk_ext [idx t]

set_option maxHeartbeats 1000000 in
theorem holds_fst (h : ArgsAt m c X K) (t : Fin cfg0.N) : Holds (X (2 * t.val)) K (mem m c t) (fst m c t) := by
  have ht : t.val < 8 := lt_of_lt_of_eq t.isLt N_0
  refine ⟨fun i d => ?_, fun d n => ?_, fun n => h.norm ⟨2 * t.val, by omega⟩ n⟩
  · refine Eq.trans ?_ (h.key i d)
    blk_point [iblk, V, idx t]
  · exact (fst_at t (by omega) d n).trans (h.tok ⟨2 * t.val, by omega⟩ d n)

set_option maxHeartbeats 1000000 in
theorem holds_snd (h : ArgsAt m c X K) (t : Fin cfg0.N) : Holds (X (2 * t.val + 1)) K (mem m c t) (snd m c t) := by
  have ht : t.val < 8 := lt_of_lt_of_eq t.isLt N_0
  refine ⟨fun i d => ?_, fun d n => ?_, fun n => h.norm ⟨2 * t.val + 1, by omega⟩ n⟩
  · refine Eq.trans ?_ (h.key i d)
    blk_point [iblk, V, idx t]
  · exact (snd_at t (by omega) d n).trans (h.tok ⟨2 * t.val + 1, by omega⟩ d n)

/-! ## What a grid point leaves -/

/-- The memory after a grid point, from the memory before it. -/
def next2 (m : (l : Loc nD τ sig) → Buf (Elt Ideal) l) (c : Dev nD) (t : Fin cfg0.N) (kk : Vec Ideal S10x512 .f32) : Vec Ideal S10x512 .f32 :=
  k0_pay32 (k0_pay6 (snd m c t)) (k0_pay8 (mem m c t) (snd m c t)) (k0_pay17 (k0_pay13 (mem m c t) (snd m c t)))
    (k0_pay32 (k0_pay6 (fst m c t)) (k0_pay8 (mem m c t) (fst m c t)) (k0_pay17 (k0_pay13 (mem m c t) (fst m c t))) kk)

theorem next2_at (h : ArgsAt m c X K) (t : Fin cfg0.N) (kk : Vec Ideal S10x512 .f32)
    (hk : ∀ i d, kk (ix2 i d) = memory X K (2 * t.val) i d) (i : Fin 10) (d : Fin 512) :
    next2 m c t kk (ix2 i d) = memory X K (2 * t.val + 2) i d := by
  refine (pay32 (holds_snd h t) _ i d).trans ?_
  simp only [pay32 (holds_fst h t), hk]
  rfl

theorem pay2_at (h : ArgsAt m c X K) (t : Fin cfg0.N) (i : Fin 10) (d : Fin 512) :
    k0_pay2 (mem m c t) (ix2 i d) = memory X K 0 i d := by
  pointwise [k0_pay2]
  exact (holds_fst h t).key i d

/-- The scratch memory after a grid point. -/
theorem scratch_first (t : Fin cfg0.N) (h0 : t.val % 8 = 0) :
    (outsAt0 m c t.val t.isLt).2.2.2.2.2 = next2 m c t (k0_pay2 (mem m c t)) := by
  rw [outsAt0_A m c t h0 (by omega)]
  frame_out
  rfl

theorem scratch_next (t : Fin cfg0.N) (h0 : ¬t.val % 8 = 0) :
    (outsAt0 m c t.val t.isLt).2.2.2.2.2 = next2 m c t (outsAt0 m c (t.val - 1) (Nat.lt_of_le_of_lt (Nat.sub_le _ _) t.isLt)).2.2.2.2.2 := by
  by_cases h1 : t.val % 8 = 7
  · rw [outsAt0_C m c t h0 h1]
    frame_out
    exact congrArg (next2 m c t) (Memref.IsWhole.read_unread (Memref.isWhole_whole cc0_scratch0) _)
  · rw [outsAt0_B m c t h0 h1]
    frame_out
    exact congrArg (next2 m c t) (Memref.IsWhole.read_unread (Memref.isWhole_whole cc0_scratch0) _)

theorem scratch_at (h : ArgsAt m c X K) : ∀ (n : ℕ) (hn : n < cfg0.N) (i : Fin 10) (d : Fin 512),
    (outsAt0 m c n hn).2.2.2.2.2 (ix2 i d) = memory X K (2 * n + 2) i d
  | 0, hn, i, d => by
    rw [scratch_first ⟨0, hn⟩ rfl]
    exact next2_at h ⟨0, hn⟩ _ (pay2_at h _) i d
  | n + 1, hn, i, d => by
    have : n + 1 < 8 := lt_of_lt_of_eq hn N_0
    rw [scratch_next ⟨n + 1, hn⟩ (by simp only; omega)]
    exact next2_at h ⟨n + 1, hn⟩ _ (fun i d => scratch_at h n _ i d) i d

/-! ## The outputs' blocks -/

set_option maxHeartbeats 2000000 in
theorem out2 (h : ArgsAt m c X K) (t : Fin cfg0.N) (y : S2x1024x1024.Idx) :
    (outsAt0 m c t.val t.isLt).1 y = ((joined (X (2 * t.val + (y 0 : ℕ))) K (y 1) (y 2) : ℝ) : EReal) := by
  rcases cases0 t with ⟨h0, h1⟩ | ⟨h0, h1⟩ | ⟨h0, h1⟩
  · rw [outsAt0_A m c t h0 h1]; frame_out
    canon_tiles x hx
    · rw [show (y 0 : ℕ) = 1 by omega]
      exact (show _ = k0_pay31 (k0_pay20 (mem m c t) (k0_pay11 (mem m c t) (snd m c t)) (k0_pay13 (mem m c t) (snd m c t))) x from rfl).trans (tile_read (holds_snd h t) x (y 1) (y 2) hx1 hx2)
    · rw [show (y 0 : ℕ) = 1 by omega]
      exact (show _ = k0_pay30 (k0_pay6 (snd m c t)) x from rfl).trans (tile_tok (holds_snd h t) x (y 1) (y 2) hx1 hx2)
    · rw [show (y 0 : ℕ) = 0 by omega]
      exact (show _ = k0_pay31 (k0_pay20 (mem m c t) (k0_pay11 (mem m c t) (fst m c t)) (k0_pay13 (mem m c t) (fst m c t))) x from rfl).trans (tile_read (holds_fst h t) x (y 1) (y 2) hx1 hx2)
    · rw [show (y 0 : ℕ) = 0 by omega]
      exact (show _ = k0_pay30 (k0_pay6 (fst m c t)) x from rfl).trans (tile_tok (holds_fst h t) x (y 1) (y 2) hx1 hx2)
  · rw [outsAt0_B m c t h0 h1]; frame_out
    canon_tiles x hx
    · rw [show (y 0 : ℕ) = 1 by omega]
      exact (show _ = k0_pay31 (k0_pay20 (mem m c t) (k0_pay11 (mem m c t) (snd m c t)) (k0_pay13 (mem m c t) (snd m c t))) x from rfl).trans (tile_read (holds_snd h t) x (y 1) (y 2) hx1 hx2)
    · rw [show (y 0 : ℕ) = 1 by omega]
      exact (show _ = k0_pay30 (k0_pay6 (snd m c t)) x from rfl).trans (tile_tok (holds_snd h t) x (y 1) (y 2) hx1 hx2)
    · rw [show (y 0 : ℕ) = 0 by omega]
      exact (show _ = k0_pay31 (k0_pay20 (mem m c t) (k0_pay11 (mem m c t) (fst m c t)) (k0_pay13 (mem m c t) (fst m c t))) x from rfl).trans (tile_read (holds_fst h t) x (y 1) (y 2) hx1 hx2)
    · rw [show (y 0 : ℕ) = 0 by omega]
      exact (show _ = k0_pay30 (k0_pay6 (fst m c t)) x from rfl).trans (tile_tok (holds_fst h t) x (y 1) (y 2) hx1 hx2)
  · rw [outsAt0_C m c t h0 h1]; frame_out
    canon_tiles x hx
    · rw [show (y 0 : ℕ) = 1 by omega]
      exact (show _ = k0_pay31 (k0_pay20 (mem m c t) (k0_pay11 (mem m c t) (snd m c t)) (k0_pay13 (mem m c t) (snd m c t))) x from rfl).trans (tile_read (holds_snd h t) x (y 1) (y 2) hx1 hx2)
    · rw [show (y 0 : ℕ) = 1 by omega]
      exact (show _ = k0_pay30 (k0_pay6 (snd m c t)) x from rfl).trans (tile_tok (holds_snd h t) x (y 1) (y 2) hx1 hx2)
    · rw [show (y 0 : ℕ) = 0 by omega]
      exact (show _ = k0_pay31 (k0_pay20 (mem m c t) (k0_pay11 (mem m c t) (fst m c t)) (k0_pay13 (mem m c t) (fst m c t))) x from rfl).trans (tile_read (holds_fst h t) x (y 1) (y 2) hx1 hx2)
    · rw [show (y 0 : ℕ) = 0 by omega]
      exact (show _ = k0_pay30 (k0_pay6 (fst m c t)) x from rfl).trans (tile_tok (holds_fst h t) x (y 1) (y 2) hx1 hx2)

set_option maxHeartbeats 2000000 in
theorem out3 (h : ArgsAt m c X K) (t : Fin cfg0.N) (y : S2x1x1024.Idx) :
    (outsAt0 m c t.val t.isLt).2.1 y = ((loss (X (2 * t.val + (y 0 : ℕ))) K (y 2) : ℝ) : EReal) := by
  rcases cases0 t with ⟨h0, h1⟩ | ⟨h0, h1⟩ | ⟨h0, h1⟩
  · rw [outsAt0_A m c t h0 h1]; frame_out
    canon_tiles x hx
    · rw [show (y 0 : ℕ) = 1 by omega]
      exact (show _ = lossTile (mem m c t) (snd m c t) x from rfl).trans (tile_loss (holds_snd h t) x (y 2) hx2)
    · rw [show (y 0 : ℕ) = 0 by omega]
      exact (show _ = lossTile (mem m c t) (fst m c t) x from rfl).trans (tile_loss (holds_fst h t) x (y 2) hx2)
  · rw [outsAt0_B m c t h0 h1]; frame_out
    canon_tiles x hx
    · rw [show (y 0 : ℕ) = 1 by omega]
      exact (show _ = lossTile (mem m c t) (snd m c t) x from rfl).trans (tile_loss (holds_snd h t) x (y 2) hx2)
    · rw [show (y 0 : ℕ) = 0 by omega]
      exact (show _ = lossTile (mem m c t) (fst m c t) x from rfl).trans (tile_loss (holds_fst h t) x (y 2) hx2)
  · rw [outsAt0_C m c t h0 h1]; frame_out
    canon_tiles x hx
    · rw [show (y 0 : ℕ) = 1 by omega]
      exact (show _ = lossTile (mem m c t) (snd m c t) x from rfl).trans (tile_loss (holds_snd h t) x (y 2) hx2)
    · rw [show (y 0 : ℕ) = 0 by omega]
      exact (show _ = lossTile (mem m c t) (fst m c t) x from rfl).trans (tile_loss (holds_fst h t) x (y 2) hx2)

set_option maxHeartbeats 2000000 in
theorem out4 (h : ArgsAt m c X K) (t : Fin cfg0.N) (y : S2x1024x512.Idx) :
    (outsAt0 m c t.val t.isLt).2.2.1 y = ((apart (X (2 * t.val + (y 0 : ℕ))) K (y 1) (y 2) : ℝ) : EReal) := by
  rcases cases0 t with ⟨h0, h1⟩ | ⟨h0, h1⟩ | ⟨h0, h1⟩
  · rw [outsAt0_A m c t h0 h1]; frame_out
    canon_tiles x hx
    · rw [show (y 0 : ℕ) = 1 by omega]
      exact (show _ = k0_pay21 (mem m c t) (k0_pay6 (snd m c t)) (k0_pay11 (mem m c t) (snd m c t)) (k0_pay13 (mem m c t) (snd m c t)) x from rfl).trans (tile_apart (holds_snd h t) x (y 1) (y 2) hx1 hx2)
    · rw [show (y 0 : ℕ) = 0 by omega]
      exact (show _ = k0_pay21 (mem m c t) (k0_pay6 (fst m c t)) (k0_pay11 (mem m c t) (fst m c t)) (k0_pay13 (mem m c t) (fst m c t)) x from rfl).trans (tile_apart (holds_fst h t) x (y 1) (y 2) hx1 hx2)
  · rw [outsAt0_B m c t h0 h1]; frame_out
    canon_tiles x hx
    · rw [show (y 0 : ℕ) = 1 by omega]
      exact (show _ = k0_pay21 (mem m c t) (k0_pay6 (snd m c t)) (k0_pay11 (mem m c t) (snd m c t)) (k0_pay13 (mem m c t) (snd m c t)) x from rfl).trans (tile_apart (holds_snd h t) x (y 1) (y 2) hx1 hx2)
    · rw [show (y 0 : ℕ) = 0 by omega]
      exact (show _ = k0_pay21 (mem m c t) (k0_pay6 (fst m c t)) (k0_pay11 (mem m c t) (fst m c t)) (k0_pay13 (mem m c t) (fst m c t)) x from rfl).trans (tile_apart (holds_fst h t) x (y 1) (y 2) hx1 hx2)
  · rw [outsAt0_C m c t h0 h1]; frame_out
    canon_tiles x hx
    · rw [show (y 0 : ℕ) = 1 by omega]
      exact (show _ = k0_pay21 (mem m c t) (k0_pay6 (snd m c t)) (k0_pay11 (mem m c t) (snd m c t)) (k0_pay13 (mem m c t) (snd m c t)) x from rfl).trans (tile_apart (holds_snd h t) x (y 1) (y 2) hx1 hx2)
    · rw [show (y 0 : ℕ) = 0 by omega]
      exact (show _ = k0_pay21 (mem m c t) (k0_pay6 (fst m c t)) (k0_pay11 (mem m c t) (fst m c t)) (k0_pay13 (mem m c t) (fst m c t)) x from rfl).trans (tile_apart (holds_fst h t) x (y 1) (y 2) hx1 hx2)

set_option maxHeartbeats 2000000 in
theorem out5 (h : ArgsAt m c X K) (t : Fin cfg0.N) (y : S2x1x1024.Idx) :
    (outsAt0 m c t.val t.isLt).2.2.2.1 y = BitVec.ofNat 32 (near (X (2 * t.val + (y 0 : ℕ))) K (y 2)).val := by
  rcases cases0 t with ⟨h0, h1⟩ | ⟨h0, h1⟩ | ⟨h0, h1⟩
  · rw [outsAt0_A m c t h0 h1]; frame_out
    canon_tiles x hx
    · rw [show (y 0 : ℕ) = 1 by omega]
      exact (show _ = k0_pay29 (k0_pay12 (mem m c t) (snd m c t)) x from rfl).trans (tile_near (holds_snd h t) x (y 2) hx2)
    · rw [show (y 0 : ℕ) = 0 by omega]
      exact (show _ = k0_pay29 (k0_pay12 (mem m c t) (fst m c t)) x from rfl).trans (tile_near (holds_fst h t) x (y 2) hx2)
  · rw [outsAt0_B m c t h0 h1]; frame_out
    canon_tiles x hx
    · rw [show (y 0 : ℕ) = 1 by omega]
      exact (show _ = k0_pay29 (k0_pay12 (mem m c t) (snd m c t)) x from rfl).trans (tile_near (holds_snd h t) x (y 2) hx2)
    · rw [show (y 0 : ℕ) = 0 by omega]
      exact (show _ = k0_pay29 (k0_pay12 (mem m c t) (fst m c t)) x from rfl).trans (tile_near (holds_fst h t) x (y 2) hx2)
  · rw [outsAt0_C m c t h0 h1]; frame_out
    canon_tiles x hx
    · rw [show (y 0 : ℕ) = 1 by omega]
      exact (show _ = k0_pay29 (k0_pay12 (mem m c t) (snd m c t)) x from rfl).trans (tile_near (holds_snd h t) x (y 2) hx2)
    · rw [show (y 0 : ℕ) = 0 by omega]
      exact (show _ = k0_pay29 (k0_pay12 (mem m c t) (fst m c t)) x from rfl).trans (tile_near (holds_fst h t) x (y 2) hx2)

theorem out6 (t : Fin cfg0.N) (h1 : t.val % 8 = 7) :
    (outsAt0 m c t.val t.isLt).2.2.2.2.1 = (outsAt0 m c t.val t.isLt).2.2.2.2.2 := by
  rw [outsAt0_C m c t (by omega) h1]
  frame_out

/-! ## The arrays after the run -/

set_option maxHeartbeats 1000000 in
theorem final2 (h : ArgsAt m c X K) : (dats m 0 c).arrAt 2 (cfgs 0).N
    = fun i : S16x1024x1024.Idx => ((joined (X (i 0 : ℕ)) K (i 1) (i 2) : ℝ) : EReal) := by
  refine (dats m 0 c).arrAt_eq_of_covers 2 _ (by decide +kernel) fun t _ y => ?_
  have e0 : ((((cfg0.win 2).blk t).view.emb y) 0 : ℕ) = 2 * t.val + (y 0 : ℕ) := by blk_simp [idx t] <;> omega
  have e1 : (((cfg0.win 2).blk t).view.emb y) 1 = y 1 := Fin.ext (by blk_simp [idx t] <;> omega)
  have e2 : (((cfg0.win 2).blk t).view.emb y) 2 = y 2 := Fin.ext (by blk_simp [idx t] <;> omega)
  simp only [e0, e1, e2]
  blk_simp
  rw [after0_2]
  exact out2 h t y

set_option maxHeartbeats 1000000 in
theorem final3 (h : ArgsAt m c X K) : (dats m 0 c).arrAt 3 (cfgs 0).N
    = fun i : S16x1x1024.Idx => ((loss (X (i 0 : ℕ)) K (i 2) : ℝ) : EReal) := by
  refine (dats m 0 c).arrAt_eq_of_covers 3 _ (by decide +kernel) fun t _ y => ?_
  have e0 : ((((cfg0.win 3).blk t).view.emb y) 0 : ℕ) = 2 * t.val + (y 0 : ℕ) := by blk_simp [idx t] <;> omega
  have e2 : (((cfg0.win 3).blk t).view.emb y) 2 = y 2 := Fin.ext (by blk_simp [idx t] <;> omega)
  simp only [e0, e2]
  blk_simp
  rw [after0_3]
  exact out3 h t y

set_option maxHeartbeats 1000000 in
theorem final4 (h : ArgsAt m c X K) : (dats m 0 c).arrAt 4 (cfgs 0).N
    = fun i : S16x1024x512.Idx => ((apart (X (i 0 : ℕ)) K (i 1) (i 2) : ℝ) : EReal) := by
  refine (dats m 0 c).arrAt_eq_of_covers 4 _ (by decide +kernel) fun t _ y => ?_
  have e0 : ((((cfg0.win 4).blk t).view.emb y) 0 : ℕ) = 2 * t.val + (y 0 : ℕ) := by blk_simp [idx t] <;> omega
  have e1 : (((cfg0.win 4).blk t).view.emb y) 1 = y 1 := Fin.ext (by blk_simp [idx t] <;> omega)
  have e2 : (((cfg0.win 4).blk t).view.emb y) 2 = y 2 := Fin.ext (by blk_simp [idx t] <;> omega)
  simp only [e0, e1, e2]
  blk_simp
  rw [after0_4]
  exact out4 h t y

set_option maxHeartbeats 1000000 in
theorem final5 (h : ArgsAt m c X K) : (dats m 0 c).arrAt 5 (cfgs 0).N
    = fun i : S16x1x1024.Idx => BitVec.ofNat 32 (near (X (i 0 : ℕ)) K (i 2)).val := by
  refine (dats m 0 c).arrAt_eq_of_covers 5 _ (by decide +kernel) fun t _ y => ?_
  have e0 : ((((cfg0.win 5).blk t).view.emb y) 0 : ℕ) = 2 * t.val + (y 0 : ℕ) := by blk_simp [idx t] <;> omega
  have e2 : (((cfg0.win 5).blk t).view.emb y) 2 = y 2 := Fin.ext (by blk_simp [idx t] <;> omega)
  simp only [e0, e2]
  blk_simp
  rw [after0_5]
  exact out5 h t y

set_option maxHeartbeats 1000000 in
theorem final6 (h : ArgsAt m c X K) : (dats m 0 c).arrAt 6 (cfgs 0).N
    = fun i : S10x512.Idx => memory X K 16 (i 0) (i 1) := by
  refine (dats m 0 c).arrAt_eq_of_after_last 6 t0_7 (by decide +kernel) _ fun j => ?_
  blk_simp
  rw [after0_6, out6 t0_7 rfl]
  refine Eq.trans ?_ (scratch_at h 7 (by decide) (j 0) (j 1))
  exact congrArg (outsAt0 m c t0_7.val t0_7.isLt).2.2.2.2.2 (by blk_ext)

end Cert.Proof.Kernel
-- ==== Proof.Final.lean ====
/- The kernel's five results: the arrays the grid leaves, three of them laid out anew. -/
module

public import proofs.«01_k».proof.Proof.Gen.KernelIdeal.Frame
public import proofs.«01_k».proof.Proof.Values
public import Idealize.ShloMosaic.Lib.Pipeline.ValueKit
public import Idealize.ShloMosaic.Lib.IdealHost
public import Idealize.ShloMosaic.Lib.Claim

@[expose] public section

set_option maxRecDepth 16384

noncomputable section

namespace Cert.Proof.Kernel

open Idealize.ShloMosaic Idealize.ShloMosaic.TcCoe Idealize.SL.Sem Cert.KernelIdeal Cert.KernelIdeal.Gen Cert.Proof

variable {m : (l : Loc nD τ sig) → Buf (Elt Ideal) l} {c : Dev nD} {X : ℕ → Batch} {K : Items}

/-- What the kernel leaves in a buffer that is not one of the grid's arrays. -/
abbrev after (m : (l : Loc nD τ sig) → Buf (Elt Ideal) l) : (c : Dev nD) → (b : Ref sig .tc) → Buf (Elt Ideal) ((c : Thread nD τ).loc b) :=
  Pipeline.afterTail₀ cfgs (dats m) 0 (V0 m) [hostOps1]

theorem array_at (w : Fin 7) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  Pipeline.withArrays_arr _ (by decide) c _ _ w

/-- The queries. -/
theorem joined_after (h : ArgsAt m c X K) : (after m c main_v2 : Vec Ideal S16x1024x32x32 .f32)
    = fun i : S16x1024x32x32.Idx => ((joined (X (i 0 : ℕ)) K (i 1) ⟨32 * (i 2 : ℕ) + (i 3 : ℕ), by have := (i 2).isLt; have := (i 3).isLt; simp at *; omega⟩ : ℝ) : EReal) := by
  have e : (after m c main_v2 : Vec Ideal S16x1024x32x32 .f32)
      = shapeCast S16x1024x32x32 ((dats m 0 c).arrAt 2 (cfgs 0).N : Vec Ideal S16x1024x1024 .f32) shapeCasts_S16x1024x1024_S16x1024x32x32 := by
    show StableHlo.after hostOps1 _ _ = _
    unfold hostOps1
    after_results
    exact congrArg (fun v : Vec Ideal S16x1024x1024 .f32 => shapeCast S16x1024x32x32 v shapeCasts_S16x1024x1024_S16x1024x32x32) (array_at 2)
  rw [e, final2 h]
  funext i
  pointwise
  congr 3
  exact congrArg (· + (i 3 : ℕ)) (Nat.mul_comm _ _)

/-- A row of each batch, laid out anew: the same row. -/
theorem row_read {e : EltTy} (v : Vec Ideal S16x1x1024 e) (b : Fin 16) (n : Fin 1024) :
    shapeCast S16x1024 v shapeCasts_S16x1x1024_S16x1024 (ix2 b n) = v (ix3 b 0 n) := by
  pointwise

/-- The margin losses. -/
theorem loss_after (h : ArgsAt m c X K) : (after m c main_v3 : Vec Ideal S16x1024 .f32)
    = fun i : S16x1024.Idx => ((loss (X (i 0 : ℕ)) K (i 1) : ℝ) : EReal) := by
  have e : (after m c main_v3 : Vec Ideal S16x1024 .f32)
      = shapeCast S16x1024 ((dats m 0 c).arrAt 3 (cfgs 0).N : Vec Ideal S16x1x1024 .f32) shapeCasts_S16x1x1024_S16x1024 := by
    show StableHlo.after hostOps1 _ _ = _
    unfold hostOps1
    after_results
    exact congrArg (fun v : Vec Ideal S16x1x1024 .f32 => shapeCast S16x1024 v shapeCasts_S16x1x1024_S16x1024) (array_at 3)
  have e' : ((dats m 0 c).arrAt 3 (cfgs 0).N : Vec Ideal S16x1x1024 .f32) = fun i : S16x1x1024.Idx => ((loss (X (i 0 : ℕ)) K (i 2) : ℝ) : EReal) := final3 h
  rw [e, e']
  funext i
  obtain ⟨b, n, rfl⟩ : ∃ b n, i = ix2 b n := ⟨_, _, eq_ix2 i⟩
  exact row_read (e := .f32) (fun i : S16x1x1024.Idx => ((loss (X (i 0 : ℕ)) K (i 2) : ℝ) : EReal)) b n

/-- The nearest items. -/
theorem near_after (h : ArgsAt m c X K) : (after m c main_v4 : Vec Ideal S16x1024 .i32)
    = fun i : S16x1024.Idx => BitVec.ofNat 32 (near (X (i 0 : ℕ)) K (i 1)).val := by
  have e : (after m c main_v4 : Vec Ideal S16x1024 .i32)
      = shapeCast S16x1024 ((dats m 0 c).arrAt 5 (cfgs 0).N : Vec Ideal S16x1x1024 .i32) shapeCasts_S16x1x1024_S16x1024 := by
    show StableHlo.after hostOps1 _ _ = _
    unfold hostOps1
    after_results
    exact congrArg (fun v : Vec Ideal S16x1x1024 .i32 => shapeCast S16x1024 v shapeCasts_S16x1x1024_S16x1024) (array_at 5)
  have e' : ((dats m 0 c).arrAt 5 (cfgs 0).N : Vec Ideal S16x1x1024 .i32) = fun i : S16x1x1024.Idx => BitVec.ofNat 32 (near (X (i 0 : ℕ)) K (i 2)).val := final5 h
  rw [e, e']
  funext i
  obtain ⟨b, n, rfl⟩ : ∃ b n, i = ix2 b n := ⟨_, _, eq_ix2 i⟩
  exact row_read (e := .i32) (fun i : S16x1x1024.Idx => BitVec.ofNat 32 (near (X (i 0 : ℕ)) K (i 2)).val) b n

/-- From arguments the precondition admits, every run ends with the five results and the arguments unchanged. -/
theorem kernel_run (g : Dev nD → PrngReg) (X : Dev nD → ℕ → Batch) (K : Dev nD → Items) (h : ∀ c, ArgsAt m c (X c) (K c)) :
    θ_run defs (onTc (τ := τ) (main (F := Ideal))) ⟨m, fun _ => 0, g⟩ fun r => ∀ c : Dev nD,
      r.2.mem ((c : Thread nD τ).loc main_v2)
          = (fun i : S16x1024x32x32.Idx => ((joined (X c (i 0 : ℕ)) (K c) (i 1) ⟨32 * (i 2 : ℕ) + (i 3 : ℕ), by have := (i 2).isLt; have := (i 3).isLt; simp at *; omega⟩ : ℝ) : EReal))
        ∧ r.2.mem ((c : Thread nD τ).loc main_v1_4) = (fun i : S10x512.Idx => memory (X c) (K c) 16 (i 0) (i 1))
        ∧ r.2.mem ((c : Thread nD τ).loc main_v3) = (fun i : S16x1024.Idx => ((loss (X c (i 0 : ℕ)) (K c) (i 1) : ℝ) : EReal))
        ∧ r.2.mem ((c : Thread nD τ).loc main_v1_2) = (fun i : S16x1024x512.Idx => ((apart (X c (i 0 : ℕ)) (K c) (i 1) (i 2) : ℝ) : EReal))
        ∧ r.2.mem ((c : Thread nD τ).loc main_v4) = (fun i : S16x1024.Idx => BitVec.ofNat 32 (near (X c (i 0 : ℕ)) (K c) (i 1)).val)
        ∧ r.2.mem ((c : Thread nD τ).loc main_arg0) = m ((c : Thread nD τ).loc main_arg0)
        ∧ r.2.mem ((c : Thread nD τ).loc main_arg1) = m ((c : Thread nD τ).loc main_arg1) :=
  (θ_run defs _ _).mono (fun _ r c =>
      ⟨((r.1 c).2 main_v2 (Pipeline.mem_restRefs_of main_v2 (by decide) (by decide))).trans (joined_after (h c)),
        ((r.1 c).1 6).trans (final6 (h c)),
        ((r.1 c).2 main_v3 (Pipeline.mem_restRefs_of main_v3 (by decide) (by decide))).trans (loss_after (h c)),
        ((r.1 c).1 4).trans (final4 (h c)),
        ((r.1 c).2 main_v4 (Pipeline.mem_restRefs_of main_v4 (by decide) (by decide))).trans (near_after (h c)),
        (r.2 c).1, (r.2 c).2⟩)
    (θ_run_and (run_main m g) (unchanged m g))

end Cert.Proof.Kernel
-- ==== Proof.Lookup.lean ====
module

public import proofs.«01_k».proof.Proof.Gen.ReferenceIdeal.Run
public import proofs.«01_k».proof.Proof.Spec
public import Idealize.ShloMosaic.Lib.Pipeline.ValueKit
public import Idealize.ShloMosaic.Lib.IdealHost
public import Idealize.ShloMosaic.Lib.Tactic.CleanTypes

@[expose] public section

set_option maxRecDepth 16384

noncomputable section

namespace Cert.Proof.Reference

open Idealize.ShloMosaic Idealize.ShloMosaic.TcCoe Cert.ReferenceIdeal Cert.Proof

/-! ## Two operations read at an index -/

/-- One real entry above another, as the sort compares them. -/
theorem greater (a b : ℝ) : (FloatOps.cmpfTotal (F := Ideal) (φ := .f32) .gt ((a : ℝ) : EReal) ((b : ℝ) : EReal) == 1#1) = decide (b < a) := by
  show (BitVec.ofBool (decide (((b : ℝ) : EReal) < ((a : ℝ) : EReal))) == 1#1) = _
  simp only [EReal.coe_lt_coe_iff]
  by_cases h : b < a <;> simp [h]

/-- The sort of a row of reals is by its greatest entries. -/
theorem sorted_row (x : FVec Ideal S16x1024x10 .f32) (f : Fin 10 → ℝ) (b : Fin 16) (n : Fin 1024)
    (hf : ∀ i, x (ix3 b n i) = ((f i : ℝ) : EReal)) (j : S16x1024x10.Idx) (h0 : (j 0 : ℕ) = b) (h1 : (j 1 : ℕ) = n) (k : Fin 10) :
    sortedFrom (fun a a' : Fin 10 => FloatOps.cmpfTotal .gt (x (j.along 2 a)) (x (j.along 2 a')) == 1#1) k = top f k := by
  have e : ∀ a : Fin 10, x (j.along 2 a) = ((f a : ℝ) : EReal) := fun a => by
    rw [← hf a]
    refine congrArg x (funext fun i => Fin.ext ?_)
    match i with
    | ⟨0, _⟩ => exact h0
    | ⟨1, _⟩ => exact h1
    | ⟨2, _⟩ => rfl
  simp only [e, greater]
  rfl

/-- The positions of the greatest entries of a row of reals: the two first, -/
theorem topK_two (x : FVec Ideal S16x1024x10 .f32) (hx : S16x1024x10.Slices (fun _ => 0) S16x1024x2) (f : Fin 10 → ℝ)
    (b : Fin 16) (n : Fin 1024) (hf : ∀ i, x (ix3 b n i) = ((f i : ℝ) : EReal)) (k : Fin 2) :
    (Host.topK S16x1024x2 2 (FloatOps.cmpfTotal .gt) x hx).2 (ix3 b n k) = BitVec.ofNat 32 (top f (k.castLE (by decide))).val := by
  unfold Host.topK Host.sort2
  pointwise
  exact congrArg (fun i : Fin 10 => BitVec.ofNat 32 i.val) (sorted_row x f b n hf _ rfl rfl _)

/-- the first alone. -/
theorem topK_one (x : FVec Ideal S16x1024x10 .f32) (hx : S16x1024x10.Slices (fun _ => 0) S16x1024x1) (f : Fin 10 → ℝ)
    (b : Fin 16) (n : Fin 1024) (hf : ∀ i, x (ix3 b n i) = ((f i : ℝ) : EReal)) :
    (Host.topK S16x1024x1 2 (FloatOps.cmpfTotal .gt) x hx).2 (ix3 b n 0) = BitVec.ofNat 32 (top f 0).val := by
  unfold Host.topK Host.sort2
  pointwise
  exact congrArg (fun i : Fin 10 => BitVec.ofNat 32 i.val) (sorted_row x f b n hf _ rfl rfl _)

/-- A row of the memory looked up at each token, the row's number below ten. -/
theorem lookup (x : FVec Ideal S10x512 .f32) (w : IVec S16x1024x1 32) (b : Fin 16) (n : Fin 1024) (d : Fin 512) (i : Fin 10)
    (hw : w (ix3 b n 0) = BitVec.ofNat 32 i.val) :
    Host.gather gather_S10x512_S16x1024x1_S16x1024x512_2_0_n_n_0_2_1512 x w (ix3 b n d) = x (ix2 i d) := by
  unfold Host.gather
  refine congrArg x (funext fun a => Fin.ext ?_)
  have hsi : ∀ p, (gather_S10x512_S16x1024x1_S16x1024x512_2_0_n_n_0_2_1512).siIdx (ix3 b n d) p = ix3 b n 0 := by
    intro p
    funext a
    apply Fin.ext
    match a with
    | ⟨0, _⟩ => rfl
    | ⟨1, _⟩ => rfl
    | ⟨2, _⟩ =>
      have : p.val < 1 := p.isLt
      show p.val = 0
      omega
  have hword : ∀ i : Fin 10, min (BitVec.ofNat 32 i.val).toInt.toNat 9 = i.val := by decide
  match a with
  | ⟨0, _⟩ =>
    show GatherDims.start _ _ w 0 + 0 + 0 = i.val
    unfold GatherDims.start
    rw [dif_pos (show (0 : Fin S10x512.rank) ∈ (gather_S10x512_S16x1024x1_S16x1024x512_2_0_n_n_0_2_1512).startIndexMap from List.mem_singleton.mpr rfl), hsi, hw]
    exact hword i
  | ⟨1, _⟩ => exact Nat.zero_add _

end Cert.Proof.Reference
-- ==== Proof.Tokens.lean ====
module

public import proofs.«01_k».proof.Proof.Gen.ReferenceIdeal.Run
public import proofs.«01_k».proof.Proof.Lookup
public import Idealize.ShloMosaic.Lib.Pipeline.ValueKit
public import Idealize.ShloMosaic.Lib.IdealHost
public import Idealize.ShloMosaic.Lib.Tactic.CleanTypes

@[expose] public section

set_option maxRecDepth 16384

noncomputable section

namespace Cert.Proof.Reference

open Idealize.ShloMosaic Idealize.ShloMosaic.TcCoe Cert.ReferenceIdeal Cert.ReferenceIdeal.Value Cert.Proof

variable {V : Valuation τ sig (Elt Ideal)} {X : ℕ → Batch} {K : Items}

/-- The reference's two arguments, as real numbers. -/
abbrev ArgsAt (V : Valuation τ sig (Elt Ideal)) (X : ℕ → Batch) (K : Items) : Prop :=
  Args (fun b d y x => (V (Proc.devRef .tc main_arg0) : Vec Ideal S16x512x32x32 .f32) (ix4 b d y x))
    (fun i d => (V (Proc.devRef .tc main_arg1) : Vec Ideal S10x512 .f32) (ix2 i d)) X K

/-! ## The named terms, on real arguments -/

/-- The tokens, each divided by its norm. -/
theorem tok_at (h : ArgsAt V X K) (b : Fin 16) (n : Fin 1024) (d : Fin 512) :
    (res_main_v9 V : Vec Ideal S16x1024x512 .f32) (ix3 b n d) = ((unit (X b.val) d n : ℝ) : EReal) := by
  unfold res_main_v9
  clean_types
  pointwise
  have e : ∀ d, (V (Proc.devRef .tc main_arg0) : Vec Ideal S16x512x32x32 .f32) (ix4 b d ⟨n.val / 32, by omega⟩ ⟨n.val % 32, by omega⟩)
      = ((X b.val d n : ℝ) : EReal) := fun d => h.tok b d n
  simp only [e, ofBits_tiny, ← EReal.coe_mul, coe_sum, Ideal.sqrt_coe]
  rw [if_neg (not_lt.mpr (Finset.sum_nonneg fun d _ => mul_self_nonneg _))]
  change Ideal.div _ (max ((nrm (X b.val) n : ℝ) : EReal) _) = _
  rw [max_eq_left (EReal.coe_le_coe_iff.mpr (h.norm b n)), Ideal.div_coe (nrm_pos (h.norm b n)).ne', ← EReal.coe_mul, mul_one_div]
  rfl

end Cert.Proof.Reference
-- ==== Proof.Scores.lean ====
module

public import proofs.«01_k».proof.Proof.Gen.ReferenceIdeal.Run
public import proofs.«01_k».proof.Proof.Tokens
public import Idealize.ShloMosaic.Lib.Pipeline.ValueKit
public import Idealize.ShloMosaic.Lib.IdealHost
public import Idealize.ShloMosaic.Lib.Tactic.CleanTypes

@[expose] public section

set_option maxRecDepth 16384

noncomputable section

namespace Cert.Proof.Reference

open Idealize.ShloMosaic Idealize.ShloMosaic.TcCoe Cert.ReferenceIdeal Cert.ReferenceIdeal.Value Cert.Proof

variable {V : Valuation τ sig (Elt Ideal)} {X : ℕ → Batch} {K : Items}

/-- The scores of the items. -/
theorem score_at (h : ArgsAt V X K) (b : Fin 16) (n : Fin 1024) (i : Fin 10) :
    (res_main_v10 V : Vec Ideal S16x1024x10 .f32) (ix3 b n i) = ((score (X b.val) K i n : ℝ) : EReal) := by
  unfold res_main_v10
  clean_types
  pointwise
  have e : ∀ d, (V (Proc.devRef .tc main_arg1) : Vec Ideal S10x512 .f32) (ix2 i d) = ((K i d : ℝ) : EReal) := fun d => h.key i d
  simp only [e, tok_at h, ← EReal.coe_mul, coe_sum]
  refine EReal.coe_eq_coe_iff.mpr (Finset.sum_congr rfl fun d _ => mul_comm _ _)

/-- The exponentials over a batch's tokens. -/
theorem exp_tokens_at (h : ArgsAt V X K) (b : Fin 16) (n : Fin 1024) (i : Fin 10) :
    (res_main_v17 V : Vec Ideal S16x1024x10 .f32) (ix3 b n i)
      = ((Real.exp (score (X b.val) K i n - score (X b.val) K i (peak (X b.val) K i)) : ℝ) : EReal) := by
  unfold res_main_v17
  clean_types
  pointwise
  simp only [score_at h, negInf]
  rw [fold_max (fun n => ((score (X b.val) K i n : ℝ) : EReal)) ⊥ (peak (X b.val) K i) bot_le fun n => EReal.coe_le_coe_iff.mpr (peak_max _ K i n),
    max_eq_right bot_le, ← EReal.coe_sub, Ideal.exp_coe]

/-- The sum of those exponentials. -/
def total (X : Batch) (K : Items) (i : Fin 10) : ℝ := ∑ n, Real.exp (score X K i n - score X K i (peak X K i))

theorem total_pos (X : Batch) (K : Items) (i : Fin 10) : 0 < total X K i :=
  Finset.sum_pos (fun n _ => Real.exp_pos _) Finset.univ_nonempty

theorem soft_tokens_at (h : ArgsAt V X K) (b : Fin 16) (n : Fin 1024) (i : Fin 10) :
    (res_main_v21 V : Vec Ideal S16x1024x10 .f32) (ix3 b n i)
      = ((Real.exp (score (X b.val) K i n - score (X b.val) K i (peak (X b.val) K i)) * (1 / total (X b.val) K i) : ℝ) : EReal) := by
  unfold res_main_v21
  clean_types
  pointwise
  simp only [exp_tokens_at h, coe_sum]
  change Ideal.div _ ((total (X b.val) K i : ℝ) : EReal) = _
  rw [Ideal.div_coe (total_pos (X b.val) K i).ne', ← EReal.coe_mul]

/-- The exponentials over the items. -/
theorem exp_items_at (h : ArgsAt V X K) (b : Fin 16) (n : Fin 1024) (i : Fin 10) :
    (res_main_v28 V : Vec Ideal S16x1024x10 .f32) (ix3 b n i)
      = ((Real.exp (score (X b.val) K i n - score (X b.val) K (near (X b.val) K n) n) : ℝ) : EReal) := by
  unfold res_main_v28
  clean_types
  pointwise
  simp only [score_at h, negInf]
  rw [fold_max (fun i => ((score (X b.val) K i n : ℝ) : EReal)) ⊥ (near (X b.val) K n) bot_le
      fun i => EReal.coe_le_coe_iff.mpr (top_zero_max (fun i => score (X b.val) K i n) i),
    max_eq_right bot_le, ← EReal.coe_sub, Ideal.exp_coe]

theorem sum_exp_pos (X : Batch) (K : Items) (n : Fin 1024) : 0 < ∑ j, Real.exp (score X K j n - score X K (near X K n) n) :=
  Finset.sum_pos (fun j _ => Real.exp_pos _) Finset.univ_nonempty

/-- The weights of the items. -/
theorem weight_at (h : ArgsAt V X K) (b : Fin 16) (n : Fin 1024) (i : Fin 10) :
    (res_main_v32 V : Vec Ideal S16x1024x10 .f32) (ix3 b n i) = ((weight (X b.val) K i n : ℝ) : EReal) := by
  unfold res_main_v32
  clean_types
  pointwise
  simp only [exp_items_at h, coe_sum]
  rw [Ideal.div_coe (sum_exp_pos (X b.val) K n).ne', ← EReal.coe_mul, mul_one_div]
  rfl

/-- The weights are ordered as the scores. -/
theorem top_weight (X : Batch) (K : Items) (n : Fin 1024) : top (fun i => weight X K i n) = top (fun i => score X K i n) :=
  top_congr _ _ fun a b => by
    unfold weight
    rw [div_lt_div_iff_of_pos_right (sum_exp_pos X K n), Real.exp_lt_exp, sub_lt_sub_iff_right]

/-- The two nearest items. -/
theorem nearest_at (h : ArgsAt V X K) (b : Fin 16) (n : Fin 1024) :
    (res_main_indices V : Vec Ideal S16x1024x2 .i32) (ix3 b n 0) = BitVec.ofNat 32 (near (X b.val) K n).val := by
  unfold res_main_indices
  refine (topK_two _ _ (fun i => weight (X b.val) K i n) b n (fun i => weight_at h b n i) 0).trans ?_
  rw [top_weight]
  rfl

theorem second_at (h : ArgsAt V X K) (b : Fin 16) (n : Fin 1024) :
    (res_main_indices V : Vec Ideal S16x1024x2 .i32) (ix3 b n 1) = BitVec.ofNat 32 (next (X b.val) K n).val := by
  unfold res_main_indices
  refine (topK_two _ _ (fun i => weight (X b.val) K i n) b n (fun i => weight_at h b n i) 1).trans ?_
  rw [top_weight]
  rfl

theorem not_negative (i : Fin 10) : IntOp.cmpi .slt (BitVec.ofNat 32 i.val) 0#32 = 0#1 := by
  revert i
  decide

/-- The items looked up at the tokens. -/
theorem nearest_item_at (h : ArgsAt V X K) (b : Fin 16) (n : Fin 1024) (d : Fin 512) :
    (res_main_v41 V : Vec Ideal S16x1024x512 .f32) (ix3 b n d) = ((K (near (X b.val) K n) d : ℝ) : EReal) := by
  unfold res_main_v41
  refine (lookup _ _ b n d (near (X b.val) K n) ?_).trans (h.key _ d)
  unfold res_main_v34
  clean_types
  pointwise
  rw [nearest_at h, not_negative]
  rfl

/-- A token's difference from its nearest item. -/
theorem diff_at (h : ArgsAt V X K) (b : Fin 16) (n : Fin 1024) (d : Fin 512) :
    (res_main_v51 V : Vec Ideal S16x1024x512 .f32) (ix3 b n d) = ((unit (X b.val) d n - K (near (X b.val) K n) d : ℝ) : EReal) := by
  unfold res_main_v51
  clean_types
  pointwise
  rw [tok_at h, nearest_item_at h, ← EReal.coe_sub]

theorem diff_near_at (h : ArgsAt V X K) (b : Fin 16) (n : Fin 1024) (d : Fin 512) :
    (res_main_v55 V : Vec Ideal S16x1024x512 .f32) (ix3 b n d) = ((unit (X b.val) d n - K (near (X b.val) K n) d + eps : ℝ) : EReal) := by
  unfold res_main_v55
  clean_types
  pointwise
  rw [tok_at h, nearest_item_at h, ofBits_eps, ← EReal.coe_sub, ← EReal.coe_add]

theorem diff_next_at (h : ArgsAt V X K) (b : Fin 16) (n : Fin 1024) (d : Fin 512) :
    (res_main_v61 V : Vec Ideal S16x1024x512 .f32) (ix3 b n d) = ((unit (X b.val) d n - K (next (X b.val) K n) d + eps : ℝ) : EReal) := by
  unfold res_main_v61
  clean_types
  pointwise
  rw [tok_at h, ofBits_eps, EReal.coe_add, EReal.coe_sub]
  congr 2
  refine (lookup _ _ b n d (next (X b.val) K n) ?_).trans (h.key _ d)
  unfold res_main_v43
  clean_types
  pointwise
  rw [second_at h, not_negative]
  rfl

theorem uitofp_bit (i j : Fin 10) :
    FloatOps.uitofp (F := Ideal) FTy.f32 (IntOp.cmpi .eq (BitVec.ofNat 32 i.val) (BitVec.ofNat 32 j.val)) = ((if j = i then 1 else 0 : ℝ) : EReal) := by
  have e : IntOp.cmpi .eq (BitVec.ofNat 32 i.val) (BitVec.ofNat 32 j.val) = if j = i then 1#1 else 0#1 := by
    revert i j
    decide
  rw [e]
  split
  · show (((1#1 : BitVec 1).toNat : ℝ) : EReal) = _
    norm_num
  · show (((0#1 : BitVec 1).toNat : ℝ) : EReal) = _
    norm_num

end Cert.Proof.Reference
-- ==== Proof.Reference.lean ====
module

public import proofs.«01_k».proof.Proof.Gen.ReferenceIdeal.Run
public import proofs.«01_k».proof.Proof.Scores
public import Idealize.ShloMosaic.Lib.Pipeline.ValueKit
public import Idealize.ShloMosaic.Lib.IdealHost
public import Idealize.ShloMosaic.Lib.Tactic.CleanTypes

@[expose] public section

set_option maxRecDepth 16384

noncomputable section

namespace Cert.Proof.Reference

open Idealize.ShloMosaic Idealize.ShloMosaic.TcCoe Cert.ReferenceIdeal Cert.ReferenceIdeal.Value Cert.Proof

variable {V : Valuation τ sig (Elt Ideal)} {X : ℕ → Batch} {K : Items}

/-- The update of the memory by each batch. -/
theorem update_at (h : ArgsAt V X K) (b : Fin 16) (i : Fin 10) (d : Fin 512) :
    (res_main_v83 V : Vec Ideal S16x10x512 .f32) (ix3 b i d) = ((update (X b.val) K i d : ℝ) : EReal) := by
  unfold res_main_v83
  clean_types
  pointwise
  have e := fun n => topK_one (res_main_v32 V) Gen.sliceFits_S16x1024x10_S16x1024x1 (fun i => weight (X b.val) K i n) b n (fun i => weight_at h b n i)
  simp only [top_weight] at e
  change ∀ n, _ = BitVec.ofNat 32 (near (X b.val) K n).val at e
  have hmax : Finset.univ.fold max ⊥ (fun n => ((Real.exp (score (X b.val) K i n - score (X b.val) K i (peak (X b.val) K i)) * (1 / total (X b.val) K i) : ℝ) : EReal))
      = ((1 / total (X b.val) K i : ℝ) : EReal) := by
    refine (fold_max _ ⊥ (peak (X b.val) K i) bot_le fun n => EReal.coe_le_coe_iff.mpr ?_).trans ?_
    · refine mul_le_mul_of_nonneg_right (Real.exp_le_exp.mpr (sub_le_sub_right (peak_max _ K i n) _)) ?_
      exact (one_div_pos.mpr (total_pos (X b.val) K i)).le
    · rw [sub_self, Real.exp_zero, one_mul]
  simp only [e, soft_tokens_at h, negInf, hmax, tok_at h, uitofp_bit]
  have ht := (one_div_pos.mpr (total_pos (X b.val) K i)).ne'
  simp only [Ideal.div_coe ht, ← EReal.coe_mul, coe_sum]
  refine EReal.coe_eq_coe_iff.mpr (Finset.sum_congr rfl fun n _ => ?_)
  unfold share
  have := (total_pos (X b.val) K i).ne'
  field_simp

end Cert.Proof.Reference
-- ==== Proof.Memory.lean ====
module

public import proofs.«01_k».proof.Proof.Gen.ReferenceIdeal.Run
public import proofs.«01_k».proof.Proof.Reference
public import Idealize.ShloMosaic.Lib.Pipeline.ValueKit
public import Idealize.ShloMosaic.Lib.IdealHost
public import Idealize.ShloMosaic.Lib.Tactic.CleanTypes

@[expose] public section

set_option maxRecDepth 16384

noncomputable section

namespace Cert.Proof.Reference

open Idealize.ShloMosaic Idealize.ShloMosaic.TcCoe Cert.ReferenceIdeal Cert.ReferenceIdeal.Value Cert.Proof

variable {V : Valuation τ sig (Elt Ideal)} {X : ℕ → Batch} {K : Items}

/-! ## The memory, batch by batch -/

/-- A sum of the memory and an update, each item divided by its norm, is the memory after the batch. -/
theorem normalised (b : ℕ) (p : Fin 10 → Fin 512 → EReal) (hp : ∀ i d, p i d = ((update (X b) K i d : ℝ) : EReal) + memory X K b i d)
    (i : Fin 10) (d : Fin 512) :
    Ideal.div (p i d) (max (Ideal.sqrt (∑ e, p i e * p i e)) (Ideal.ofBits .f32 0x2B8CBCCC#32)) = memory X K (b + 1) i d := by
  simp only [hp, ofBits_tiny]
  rfl

theorem sum0_at (h : ArgsAt V X K) (i : Fin 10) (d : Fin 512) :
    (res_main_v86 V : Vec Ideal S10x512 .f32) (ix2 i d) = ((update (X 0) K i d : ℝ) : EReal) + memory X K 0 i d := by
  unfold res_main_v86
  clean_types
  pointwise
  exact congrArg₂ (· + ·) (update_at h 0 i d) (h.key i d)

theorem sum1_at (h : ArgsAt V X K) (i : Fin 10) (d : Fin 512) :
    (res_main_v97 V : Vec Ideal S10x512 .f32) (ix2 i d) = ((update (X 1) K i d : ℝ) : EReal) + memory X K 1 i d := by
  unfold res_main_v97
  clean_types
  pointwise
  exact congrArg₂ (· + ·) (update_at h 1 i d) (normalised 0 (fun i d => (res_main_v86 V : Vec Ideal S10x512 .f32) (ix2 i d)) (sum0_at h) i d)

theorem sum2_at (h : ArgsAt V X K) (i : Fin 10) (d : Fin 512) :
    (res_main_v108 V : Vec Ideal S10x512 .f32) (ix2 i d) = ((update (X 2) K i d : ℝ) : EReal) + memory X K 2 i d := by
  unfold res_main_v108
  clean_types
  pointwise
  exact congrArg₂ (· + ·) (update_at h 2 i d) (normalised 1 (fun i d => (res_main_v97 V : Vec Ideal S10x512 .f32) (ix2 i d)) (sum1_at h) i d)

theorem sum3_at (h : ArgsAt V X K) (i : Fin 10) (d : Fin 512) :
    (res_main_v119 V : Vec Ideal S10x512 .f32) (ix2 i d) = ((update (X 3) K i d : ℝ) : EReal) + memory X K 3 i d := by
  unfold res_main_v119
  clean_types
  pointwise
  exact congrArg₂ (· + ·) (update_at h 3 i d) (normalised 2 (fun i d => (res_main_v108 V : Vec Ideal S10x512 .f32) (ix2 i d)) (sum2_at h) i d)

theorem sum4_at (h : ArgsAt V X K) (i : Fin 10) (d : Fin 512) :
    (res_main_v130 V : Vec Ideal S10x512 .f32) (ix2 i d) = ((update (X 4) K i d : ℝ) : EReal) + memory X K 4 i d := by
  unfold res_main_v130
  clean_types
  pointwise
  exact congrArg₂ (· + ·) (update_at h 4 i d) (normalised 3 (fun i d => (res_main_v119 V : Vec Ideal S10x512 .f32) (ix2 i d)) (sum3_at h) i d)

theorem sum5_at (h : ArgsAt V X K) (i : Fin 10) (d : Fin 512) :
    (res_main_v141 V : Vec Ideal S10x512 .f32) (ix2 i d) = ((update (X 5) K i d : ℝ) : EReal) + memory X K 5 i d := by
  unfold res_main_v141
  clean_types
  pointwise
  exact congrArg₂ (· + ·) (update_at h 5 i d) (normalised 4 (fun i d => (res_main_v130 V : Vec Ideal S10x512 .f32) (ix2 i d)) (sum4_at h) i d)

theorem sum6_at (h : ArgsAt V X K) (i : Fin 10) (d : Fin 512) :
    (res_main_v152 V : Vec Ideal S10x512 .f32) (ix2 i d) = ((update (X 6) K i d : ℝ) : EReal) + memory X K 6 i d := by
  unfold res_main_v152
  clean_types
  pointwise
  exact congrArg₂ (· + ·) (update_at h 6 i d) (normalised 5 (fun i d => (res_main_v141 V : Vec Ideal S10x512 .f32) (ix2 i d)) (sum5_at h) i d)

theorem sum7_at (h : ArgsAt V X K) (i : Fin 10) (d : Fin 512) :
    (res_main_v163 V : Vec Ideal S10x512 .f32) (ix2 i d) = ((update (X 7) K i d : ℝ) : EReal) + memory X K 7 i d := by
  unfold res_main_v163
  clean_types
  pointwise
  exact congrArg₂ (· + ·) (update_at h 7 i d) (normalised 6 (fun i d => (res_main_v152 V : Vec Ideal S10x512 .f32) (ix2 i d)) (sum6_at h) i d)

theorem sum8_at (h : ArgsAt V X K) (i : Fin 10) (d : Fin 512) :
    (res_main_v174 V : Vec Ideal S10x512 .f32) (ix2 i d) = ((update (X 8) K i d : ℝ) : EReal) + memory X K 8 i d := by
  unfold res_main_v174
  clean_types
  pointwise
  exact congrArg₂ (· + ·) (update_at h 8 i d) (normalised 7 (fun i d => (res_main_v163 V : Vec Ideal S10x512 .f32) (ix2 i d)) (sum7_at h) i d)

theorem sum9_at (h : ArgsAt V X K) (i : Fin 10) (d : Fin 512) :
    (res_main_v185 V : Vec Ideal S10x512 .f32) (ix2 i d) = ((update (X 9) K i d : ℝ) : EReal) + memory X K 9 i d := by
  unfold res_main_v185
  clean_types
  pointwise
  exact congrArg₂ (· + ·) (update_at h 9 i d) (normalised 8 (fun i d => (res_main_v174 V : Vec Ideal S10x512 .f32) (ix2 i d)) (sum8_at h) i d)

theorem sum10_at (h : ArgsAt V X K) (i : Fin 10) (d : Fin 512) :
    (res_main_v196 V : Vec Ideal S10x512 .f32) (ix2 i d) = ((update (X 10) K i d : ℝ) : EReal) + memory X K 10 i d := by
  unfold res_main_v196
  clean_types
  pointwise
  exact congrArg₂ (· + ·) (update_at h 10 i d) (normalised 9 (fun i d => (res_main_v185 V : Vec Ideal S10x512 .f32) (ix2 i d)) (sum9_at h) i d)

theorem sum11_at (h : ArgsAt V X K) (i : Fin 10) (d : Fin 512) :
    (res_main_v207 V : Vec Ideal S10x512 .f32) (ix2 i d) = ((update (X 11) K i d : ℝ) : EReal) + memory X K 11 i d := by
  unfold res_main_v207
  clean_types
  pointwise
  exact congrArg₂ (· + ·) (update_at h 11 i d) (normalised 10 (fun i d => (res_main_v196 V : Vec Ideal S10x512 .f32) (ix2 i d)) (sum10_at h) i d)

theorem sum12_at (h : ArgsAt V X K) (i : Fin 10) (d : Fin 512) :
    (res_main_v218 V : Vec Ideal S10x512 .f32) (ix2 i d) = ((update (X 12) K i d : ℝ) : EReal) + memory X K 12 i d := by
  unfold res_main_v218
  clean_types
  pointwise
  exact congrArg₂ (· + ·) (update_at h 12 i d) (normalised 11 (fun i d => (res_main_v207 V : Vec Ideal S10x512 .f32) (ix2 i d)) (sum11_at h) i d)

theorem sum13_at (h : ArgsAt V X K) (i : Fin 10) (d : Fin 512) :
    (res_main_v229 V : Vec Ideal S10x512 .f32) (ix2 i d) = ((update (X 13) K i d : ℝ) : EReal) + memory X K 13 i d := by
  unfold res_main_v229
  clean_types
  pointwise
  exact congrArg₂ (· + ·) (update_at h 13 i d) (normalised 12 (fun i d => (res_main_v218 V : Vec Ideal S10x512 .f32) (ix2 i d)) (sum12_at h) i d)

theorem sum14_at (h : ArgsAt V X K) (i : Fin 10) (d : Fin 512) :
    (res_main_v240 V : Vec Ideal S10x512 .f32) (ix2 i d) = ((update (X 14) K i d : ℝ) : EReal) + memory X K 14 i d := by
  unfold res_main_v240
  clean_types
  pointwise
  exact congrArg₂ (· + ·) (update_at h 14 i d) (normalised 13 (fun i d => (res_main_v229 V : Vec Ideal S10x512 .f32) (ix2 i d)) (sum13_at h) i d)

theorem sum15_at (h : ArgsAt V X K) (i : Fin 10) (d : Fin 512) :
    (res_main_v251 V : Vec Ideal S10x512 .f32) (ix2 i d) = ((update (X 15) K i d : ℝ) : EReal) + memory X K 15 i d := by
  unfold res_main_v251
  clean_types
  pointwise
  exact congrArg₂ (· + ·) (update_at h 15 i d) (normalised 14 (fun i d => (res_main_v240 V : Vec Ideal S10x512 .f32) (ix2 i d)) (sum14_at h) i d)

end Cert.Proof.Reference
-- ==== Proof.Results.lean ====
/- The reference's five results, from its named terms. -/
module

public import proofs.«01_k».proof.Proof.Gen.ReferenceIdeal.Run
public import proofs.«01_k».proof.Proof.Memory
public import Idealize.ShloMosaic.Lib.Pipeline.ValueKit
public import Idealize.ShloMosaic.Lib.IdealHost
public import Idealize.ShloMosaic.Lib.Tactic.CleanTypes

@[expose] public section

set_option maxRecDepth 16384

noncomputable section

namespace Cert.Proof.Reference

open Idealize.ShloMosaic Idealize.ShloMosaic.TcCoe Cert.ReferenceIdeal Cert.ReferenceIdeal.Value Cert.Proof

variable {V : Valuation τ sig (Elt Ideal)} {X : ℕ → Batch} {K : Items}

/-- The queries: each token's unit vector and the item read at it. -/
theorem queries_at (h : ArgsAt V X K) (b : Fin 16) (e : Fin 1024) (y x : Fin 32) :
    (transpose S16x1024x32x32 [0, 3, 1, 2] (shapeCast S16x32x32x1024 (concatenate S16x1024x1024 2 [⟨S16x1024x512, (res_main_v9 V)⟩, ⟨S16x1024x512, (Host.dotGeneral (F := Ideal) (φ₁ := .f32) (φ₂ := .f32) dot_S16x1024x10_S10x512_S16x1024x512_2_0_01_1_n_n none (res_main_v32 V) (V (Proc.devRef .tc main_arg1)))⟩] Gen.concatenates_S16x1024x512_S16x1024x512_S16x1024x1024_d2) Gen.shapeCasts_S16x1024x1024_S16x32x32x1024) Gen.transposes_S16x32x32x1024_S16x1024x32x32_0_3_1_2 : Vec Ideal S16x1024x32x32 .f32) (ix4 b e y x)
      = ((joined (X b.val) K e ⟨32 * y.val + x.val, by omega⟩ : ℝ) : EReal) := by
  pointwise
  unfold joined
  have hn : (⟨y.val * 32 + x.val, by omega⟩ : Fin 1024) = ⟨32 * y.val + x.val, by omega⟩ := Fin.ext (by show y.val * 32 + x.val = 32 * y.val + x.val; omega)
  by_cases he : e.val < 512
  · rw [dif_pos he, dif_pos he, hn]
    exact tok_at h b _ _
  · rw [dif_neg he, dif_neg he, hn]
    pointwise
    have ek : ∀ i d, (V (Proc.devRef .tc main_arg1) : Vec Ideal S10x512 .f32) (ix2 i d) = ((K i d : ℝ) : EReal) := h.key
    simp only [weight_at h, ek, ← EReal.coe_mul, coe_sum]
    refine congrArg _ (Finset.sum_congr rfl fun i _ => mul_comm _ _)

/-- The memory after the last batch. -/
theorem memory_at (h : ArgsAt V X K) (i : Fin 10) (d : Fin 512) :
    (Host.divf (res_main_v251 V) (broadcastInDim S10x512 ![0, 1] Gen.bcast_S10x1_S10x512_0_1 (maximumf (Host.sqrt (broadcastInDim S10x1 ![0] Gen.bcast_S10_S10x1_0 (Host.reduceAdd (mulf (res_main_v251 V) (res_main_v251 V)) (constant S_ .f32 0x00000000#32) Gen.reducesTo_S10x512_S10_d1 Gen.h_S_))) (broadcastInDim S10x1 ![] Gen.bcast_S_S10x1 (constant S_ .f32 0x2B8CBCCC#32)))) : Vec Ideal S10x512 .f32) (ix2 i d)
      = memory X K 16 i d := by
  pointwise
  exact normalised 15 (fun i d => (res_main_v251 V : Vec Ideal S10x512 .f32) (ix2 i d)) (sum15_at h) i d

/-- The margin losses. -/
theorem loss_at (h : ArgsAt V X K) (b : Fin 16) (n : Fin 1024) :
    (maximumf (addf (subf (Host.sqrt (Host.reduceAdd (mulf (res_main_v55 V) (res_main_v55 V)) (constant S_ .f32 0x00000000#32) Gen.reducesTo_S16x1024x512_S16x1024_d2 Gen.h_S_)) (Host.sqrt (Host.reduceAdd (mulf (res_main_v61 V) (res_main_v61 V)) (constant S_ .f32 0x00000000#32) Gen.reducesTo_S16x1024x512_S16x1024_d2 Gen.h_S_))) (broadcastInDim S16x1024 ![] Gen.bcast_S_S16x1024 (constant S_ .f32 0x3F800000#32))) (broadcastInDim S16x1024 ![] Gen.bcast_S_S16x1024 (constant S_ .f32 0x00000000#32)) : Vec Ideal S16x1024 .f32) (ix2 b n)
      = ((loss (X b.val) K n : ℝ) : EReal) := by
  pointwise
  simp only [diff_near_at h, diff_next_at h, ← EReal.coe_mul, coe_sum, Ideal.sqrt_coe]
  rw [if_neg (not_lt.mpr (Finset.sum_nonneg fun d _ => mul_self_nonneg _)), if_neg (not_lt.mpr (Finset.sum_nonneg fun d _ => mul_self_nonneg _))]
  rw [← EReal.coe_sub, ← EReal.coe_one, ← EReal.coe_add, ← EReal.coe_zero]
  exact (EReal.coe_strictMono.monotone.map_max).symm

/-- The squared differences. -/
theorem apart_at (h : ArgsAt V X K) (b : Fin 16) (n : Fin 1024) (d : Fin 512) :
    (mulf (res_main_v51 V) (res_main_v51 V) : Vec Ideal S16x1024x512 .f32) (ix3 b n d) = ((apart (X b.val) K n d : ℝ) : EReal) := by
  pointwise
  rw [diff_at h, ← EReal.coe_mul]
  rfl

/-- The nearest items. -/
theorem near_at (h : ArgsAt V X K) (b : Fin 16) (n : Fin 1024) :
    (shapeCast S16x1024 (extractStridedSlice S16x1024x1 ![0, 0, 0] (res_main_indices V) Gen.slices_S16x1024x2_S16x1024x1_0_0_0) Gen.shapeCasts_S16x1024x1_S16x1024 : Vec Ideal S16x1024 .i32) (ix2 b n)
      = BitVec.ofNat 32 (near (X b.val) K n).val := by
  pointwise
  exact nearest_at h b n

end Cert.Proof.Reference
-- ==== Proof.Algebraic.lean ====
/- The kernel and the reference end with equal results. -/
module

public import proofs.«01_k».proof.Defs
public import proofs.«01_k».proof.Proof.Gen.Pre_nondegenerate
public import proofs.«01_k».proof.Proof.Precondition
public import proofs.«01_k».proof.Proof.Final
public import proofs.«01_k».proof.Proof.Results
public import Idealize.ShloMosaic.Lib.Claim

@[expose] public section

set_option maxRecDepth 16384

noncomputable section

namespace Cert.Proof

open Idealize.ShloMosaic Idealize.ShloMosaic.TcCoe Idealize.SL.Sem

/-- Under the precondition the kernel's five results are the reference's. -/
theorem algebraic : Cert.algebraic_KernelIdeal_ReferenceIdeal_pre_nondegenerate := by
  intro m g m' g' hpre hagree
  have hargs : ∀ c, ∃ (X : ℕ → Batch) (K : Items), Kernel.ArgsAt m c X K := fun c => args_of_pre (hpre c)
  choose X K hX using hargs
  have hR : ∀ c, Reference.ArgsAt (StableHlo.launchContents m' c) (X c) (K c) := fun c => by
    have e0 := (hagree c).1
    have e1 := (hagree c).2
    have hc := hX c
    unfold Kernel.ArgsAt at hc
    rw [← e0, ← e1] at hc
    exact hc
  refine ⟨_, _, _, _, _, Kernel.kernel_run g X K hX, (θ_run Cert.ReferenceIdeal.defs _ _).mono
    (fun _ h c => ⟨(h c).1.trans ?_, (h c).2.1.trans ?_, (h c).2.2.1.trans ?_, (h c).2.2.2.1.trans ?_, (h c).2.2.2.2.1.trans ?_, (h c).2.2.2.2.2⟩)
    (Cert.ReferenceIdeal.Value.run (F := Ideal) m' g')⟩
  · funext i
    rw [eq_ix4 i]
    exact Reference.queries_at (hR c) _ _ _ _
  · funext i
    rw [eq_ix2 i]
    exact Reference.memory_at (hR c) _ _
  · funext i
    rw [eq_ix2 i]
    exact Reference.loss_at (hR c) _ _
  · funext i
    rw [eq_ix3 i]
    exact Reference.apart_at (hR c) _ _ _
  · funext i
    rw [eq_ix2 i]
    exact Reference.near_at (hR c) _ _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nondegenerate
public import proofs.«01_k».proof.Proof.Gen.ReferenceIdeal.Run
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments unchanged, and declares no semaphore. -/
theorem frame_ri : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_nondegenerate.Gen.facts,
    fun m ρ _ => Cert.Kernel.Gen.frame m ρ,
    fun m ρ _ => Cert.KernelIdeal.Gen.frame m ρ,
    fun m ρ _ => Cert.KernelIdeal.Gen.frame m ρ,
    frame_ri,
    fun m ρ _ => frame_ri m ρ trivial,
    IdealRules.named_const.statement Cert.KernelIdeal.κ "d_eps_sq" .f32 0x300CBCCC#32
      ((77371252064649 / 151115727451828646838272 : ℝ) : EReal) rfl,
    Cert.Proof.algebraic⟩

end Cert.Proof

end
